-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S1 : Shape := ⟨1, ![1]⟩
abbrev S512x4096 : Shape := ⟨2, ![512, 4096]⟩
abbrev S5x1024x512 : Shape := ⟨3, ![5, 1024, 512]⟩
abbrev S6 : Shape := ⟨1, ![6]⟩
abbrev S5 : Shape := ⟨1, ![5]⟩
abbrev S3 : Shape := ⟨1, ![3]⟩
abbrev S_ : Shape := ⟨0, ![]⟩
abbrev S1024x512 : Shape := ⟨2, ![1024, 512]⟩
abbrev S1x1024x512 : Shape := ⟨3, ![1, 1024, 512]⟩
abbrev S512x512 : Shape := ⟨2, ![512, 512]⟩
abbrev S1x512x512 : Shape := ⟨3, ![1, 512, 512]⟩

abbrev nBuf : Space → Nat
  | .hbm => 5
  | .vmem => 9
  | .smem => 2
  | _ => 0

abbrev bufTy : (tb : Table) → Fin (tcTables nBuf tb) → BufTy
  | .hbm, ⟨0, _⟩ => ⟨S1024x4096, .f32⟩
  | .hbm, ⟨1, _⟩ => ⟨S4096x512, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S1024x4096, .f32⟩
  | .local _ .vmem, ⟨1, _⟩ => ⟨S4096x512, .f32⟩
  | .local _ .vmem, ⟨2, _⟩ => ⟨S1024x4096, .fp8e5m2⟩
  | .local _ .vmem, ⟨3, _⟩ => ⟨S4096x512, .fp8e5m2⟩
  | .local _ .vmem, ⟨4, _⟩ => ⟨S1024x4096, .fp8e5m2⟩
  | .local _ .vmem, ⟨5, _⟩ => ⟨S1024x4096, .fp8e5m2⟩
  | .local _ .vmem, ⟨6, _⟩ => ⟨S512x4096, .fp8e5m2⟩
  | .local _ .vmem, ⟨7, _⟩ => ⟨S512x4096, .fp8e5m2⟩
  | .local _ .vmem, ⟨8, _⟩ => ⟨S5x1024x512, .f32⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_12 : BitVec 32 := 1#32
  let v18 : BitVec 32 := Scalar.muli v4 c1_i32_12
  let v19 : BitVec 32 := Scalar.addi c0_i32_13 v18
  v19.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_15 : BitVec 32 := 1#32
  let v20 : BitVec 32 := Scalar.muli v6 c1_i32_15
  let v21 : BitVec 32 := Scalar.addi c0_i32_16 v20
  v21.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_28 : BitVec 32 := 1#32
  let v31 : BitVec 32 := Scalar.muli v6 c1_i32_28
  let v32 : BitVec 32 := Scalar.addi c0_i32_29 v31
  v32.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_44 : BitVec 32 := 1#32
  let v48 : BitVec 32 := Scalar.muli v4 c1_i32_44
  let v49 : BitVec 32 := Scalar.addi c0_i32_45 v48
  v49.toNat
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_52 : BitVec 32 := 1#32
  let v56 : BitVec 32 := Scalar.muli v6 c1_i32_52
  let v57 : BitVec 32 := Scalar.addi c0_i32_53 v56
  v57.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_60 : BitVec 32 := 1#32
  let v64 : BitVec 32 := Scalar.muli v4 c1_i32_60
  let v65 : BitVec 32 := Scalar.addi c0_i32_61 v64
  v65.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v83 : BitVec 32 := Scalar.muli v2 c1024_i32
  let c0_i32_87 : BitVec 32 := 0#32
  ![v83.toNat, 0]
def k0_dev7 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_100 : BitVec 32 := 1#32
  let v114 : BitVec 32 := Scalar.muli v6 c1_i32_100
  let v115 : BitVec 32 := Scalar.addi c0_i32_101 v114
  v115.toNat
def k0_dev8 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_113 : BitVec 32 := 1#32
  let v127 : BitVec 32 := Scalar.muli v4 c1_i32_113
  let v128 : BitVec 32 := Scalar.addi c0_i32_114 v127
  v128.toNat
def k0_off2 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let c1024_i32_127 : BitVec 32 := 1024#32
  let v141 : BitVec 32 := Scalar.muli v4 c1024_i32_127
  let c0_i32_140 : BitVec 32 := 0#32
  ![v141.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_169 : BitVec 32 := 2#32
  let v198 : BitVec 32 := Scalar.addi v2 c2_i32_169
  let c4_i32_170 : BitVec 32 := 4#32
  let v199 : BitVec 32 := Scalar.remsi v198 c4_i32_170
  let c1024_i32_171 : BitVec 32 := 1024#32
  let v200 : BitVec 32 := Scalar.muli v199 c1024_i32_171
  let c0_i32_192 : BitVec 32 := 0#32
  ![v200.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_169 : BitVec 32 := 2#32
  let v198 : BitVec 32 := Scalar.addi v2 c2_i32_169
  let c4_i32_170 : BitVec 32 := 4#32
  let v199 : BitVec 32 := Scalar.remsi v198 c4_i32_170
  let c1024_i32_171 : BitVec 32 := 1024#32
  let v200 : BitVec 32 := Scalar.muli v199 c1024_i32_171
  let c512_i32_203 : BitVec 32 := 512#32
  let v237 : BitVec 32 := Scalar.addi v200 c512_i32_203
  let c0_i32_216 : BitVec 32 := 0#32
  ![v237.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Same.lean ====
/-
# The two printings of the kernel are one program

The kernel printed for floats as bit patterns and the kernel printed for the extended reals have the same text. So their
bodies, their tables of bodies and their main programs are equal, at any float values.
-/
module

public import proofs.«01_k».proof.Proof.Gen.Kernel
public import proofs.«01_k».proof.Proof.Gen.KernelIdeal

@[expose] public section

noncomputable section

namespace Cert.Gather

open Idealize.ShloMosaic Idealize.SL.Sem

variable {F : FTy → Type} [FloatOps F]

/-- The bodies have the same text. -/
theorem body_same : Cert.Kernel.cc0_body (F := F) = Cert.KernelIdeal.cc0_body (F := F) := rfl

/-- The tables that name the bodies agree: each has one label. -/
theorem table_same : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => rfl

/-- So do the tables with the call's region added. -/
theorem defs_same : Cert.Kernel.defs (F := F) = Cert.KernelIdeal.defs (F := F) :=
  congrArg (Pipeline.defs Cert.KernelIdeal.pcfgs) table_same

/-- The main programs are the one call. -/
theorem main_same : Cert.Kernel.main (F := F) = Cert.KernelIdeal.main (F := F) := rfl

end Cert.Gather

end
-- ==== Proof.Plan.lean ====
/-
# The plan of the all-gather: windows, contents, and what each semaphore carries

Four devices stand in a ring. Device `c` holds a block of 1024 rows of `x` and a block of 512 columns
of `w`. It rounds its rows to the narrow format, sends them both ways around the ring in two halves of
512 rows, and passes on the half it received from either side that the opposite device still lacks.

Per semaphore of device `c` (one round each, so nothing is ever paid twice):

* the barrier: two units. One comes from `nxt c` and brings the buffers of `nxt c` that `c` writes
  (`rl` and `hl`); one comes from `prv c` and brings its buffers `rr` and `hr`.
* `send k` (numbers 2 to 7): paid by `c`'s own remote copy `k`; brings the source window's share back.
* `recv k` (numbers 8 to 13): paid by the neighbour's remote copy `k`; brings the window it wrote.
* `out k` (numbers 14 to 18): paid by `c`'s local copy of the result block `k`; brings the rows of the
  result and the staging slot back.
* `in k` (numbers 19 to 21): paid by `c`'s local copies of its arguments; brings both ends back.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging protocol's part and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

abbrev 𝒱₀ : Variants := Variants.none

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
set_option backward.proofsInPublic true in
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem prv_prv (c : Dev nD) : prv (prv c) = opp c := by revert c; decide
theorem nxt_nxt (c : Dev nD) : nxt (nxt c) = opp c := by revert c; decide

/-- The ring's turn by one place. -/
def ring : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = prv c := Fin.ext (k0_dev8_eq c)

/-! ## The buffers and their windows -/

abbrev topR : Rect S1024x4096 := Rect.unit (s := S1024x4096) ![0, 0] S512x4096.size inb_S1024x4096_S512x4096_0_0
abbrev botR : Rect S1024x4096 := Rect.unit (s := S1024x4096) ![512, 0] S512x4096.size inb_S1024x4096_S512x4096_512_0

abbrev aM : Memref sig .tc .hbm S1024x4096 .f32 := Memref.whole main_arg0
abbrev aT : Memref sig .tc .hbm S512x4096 .f32 := aM.slice topR (fun _ => rfl)
abbrev aB : Memref sig .tc .hbm S512x4096 .f32 := aM.slice botR (fun _ => rfl)
abbrev bM : Memref sig .tc .hbm S4096x512 .f32 := Memref.whole main_arg1
abbrev xfM : Memref sig .tc .vmem S1024x4096 .f32 := Memref.whole cc0_scratch0
abbrev xfT : Memref sig .tc .vmem S512x4096 .f32 := xfM.slice topR (fun _ => rfl)
abbrev xfB : Memref sig .tc .vmem S512x4096 .f32 := xfM.slice botR (fun _ => rfl)
abbrev wfM : Memref sig .tc .vmem S4096x512 .f32 := Memref.whole cc0_scratch1
abbrev xqM : Memref sig .tc .vmem S1024x4096 .fp8e5m2 := Memref.whole cc0_scratch2
abbrev xqT : Memref sig .tc .vmem S512x4096 .fp8e5m2 := xqM.slice topR (fun _ => rfl)
abbrev xqB : Memref sig .tc .vmem S512x4096 .fp8e5m2 := xqM.slice botR (fun _ => rfl)
abbrev wqM : Memref sig .tc .vmem S4096x512 .fp8e5m2 := Memref.whole cc0_scratch3
abbrev rlM : Memref sig .tc .vmem S1024x4096 .fp8e5m2 := Memref.whole cc0_scratch4
abbrev rlT : Memref sig .tc .vmem S512x4096 .fp8e5m2 := rlM.slice topR (fun _ => rfl)
abbrev rlB : Memref sig .tc .vmem S512x4096 .fp8e5m2 := rlM.slice botR (fun _ => rfl)
abbrev rrM : Memref sig .tc .vmem S1024x4096 .fp8e5m2 := Memref.whole cc0_scratch5
abbrev rrT : Memref sig .tc .vmem S512x4096 .fp8e5m2 := rrM.slice topR (fun _ => rfl)
abbrev rrB : Memref sig .tc .vmem S512x4096 .fp8e5m2 := rrM.slice botR (fun _ => rfl)
abbrev hlM : Memref sig .tc .vmem S512x4096 .fp8e5m2 := Memref.whole cc0_scratch6
abbrev hrM : Memref sig .tc .vmem S512x4096 .fp8e5m2 := Memref.whole cc0_scratch7
abbrev stM : Memref sig .tc .vmem S5x1024x512 .f32 := Memref.whole cc0_scratch8

/-- The five slots of the staging buffer: three of 1024 rows, two of 512. -/
abbrev sR0 : Rect S5x1024x512 := Rect.unit (s := S5x1024x512) ![0, 0, 0] S1x1024x512.size inb_S5x1024x512_S1x1024x512_0_0_0
abbrev sR1 : Rect S5x1024x512 := Rect.unit (s := S5x1024x512) ![1, 0, 0] S1x1024x512.size inb_S5x1024x512_S1x1024x512_1_0_0
abbrev sR2 : Rect S5x1024x512 := Rect.unit (s := S5x1024x512) ![2, 0, 0] S1x1024x512.size inb_S5x1024x512_S1x1024x512_2_0_0
abbrev sR3 : Rect S5x1024x512 := Rect.unit (s := S5x1024x512) ![3, 0, 0] S1x512x512.size inb_S5x1024x512_S1x512x512_3_0_0
abbrev sR4 : Rect S5x1024x512 := Rect.unit (s := S5x1024x512) ![4, 0, 0] S1x512x512.size inb_S5x1024x512_S1x512x512_4_0_0
abbrev sM0 : Memref sig .tc .vmem S1024x512 .f32 := (stM.slice sR0 (fun _ => rfl)).squeeze S1024x512 squeezes_S1x1024x512_S1024x512
abbrev sM1 : Memref sig .tc .vmem S1024x512 .f32 := (stM.slice sR1 (fun _ => rfl)).squeeze S1024x512 squeezes_S1x1024x512_S1024x512
abbrev sM2 : Memref sig .tc .vmem S1024x512 .f32 := (stM.slice sR2 (fun _ => rfl)).squeeze S1024x512 squeezes_S1x1024x512_S1024x512
abbrev sM3 : Memref sig .tc .vmem S512x512 .f32 := (stM.slice sR3 (fun _ => rfl)).squeeze S512x512 squeezes_S1x512x512_S512x512
abbrev sM4 : Memref sig .tc .vmem S512x512 .f32 := (stM.slice sR4 (fun _ => rfl)).squeeze S512x512 squeezes_S1x512x512_S512x512

/-- The result and the five windows of its rows that device `c` writes: its own rows, those of `prv c`,
    of `nxt c`, and the two halves of those of `opp c`. -/
abbrev oM : Memref sig .tc .hbm S4096x512 .f32 := Memref.whole main_v1
abbrev oW0 (c : Dev nD) : Memref sig .tc .hbm S1024x512 .f32 := oM.slice (Rect.unit (s := S4096x512) (k0_off1 c) S1024x512.size (k0_off1_inb c)) (fun _ => rfl)
abbrev oW1 (c : Dev nD) : Memref sig .tc .hbm S1024x512 .f32 := oM.slice (Rect.unit (s := S4096x512) (k0_off2 c 3#32) S1024x512.size (k0_off2_inb c 1)) (fun _ => rfl)
abbrev oW2 (c : Dev nD) : Memref sig .tc .hbm S1024x512 .f32 := oM.slice (Rect.unit (s := S4096x512) (k0_off2 c 1#32) S1024x512.size (k0_off2_inb c 0)) (fun _ => rfl)
abbrev oW3 (c : Dev nD) : Memref sig .tc .hbm S512x512 .f32 := oM.slice (Rect.unit (s := S4096x512) (k0_off3 c) S512x512.size (k0_off3_inb c)) (fun _ => rfl)
abbrev oW4 (c : Dev nD) : Memref sig .tc .hbm S512x512 .f32 := oM.slice (Rect.unit (s := S4096x512) (k0_off4 c) S512x512.size (k0_off4_inb c)) (fun _ => rfl)

abbrev scM : Memref sig .tc .smem S1 .f32 := Memref.whole cc0_stg0_0
abbrev tcM : Memref sig .tc .smem S1 .f32 := Memref.whole cc0_stg1_0

/-- Ownership of a window of device `c` at the share `q`, its elements those of `f`. -/
def pts {sp : Space} {s : Shape} {e : EltTy} (M : Memref sig .tc sp s e) (c : Dev nD) (q : PosShare TreeShare)
    (f : Buf (Elt F) (M.view.loc (c : Thread nD τ))) : sProp 𝕄 :=
  M.view.loc (c : Thread nD τ) ↦[M.view.set]{q} f

instance pts_storable {sp : Space} {s : Shape} {e : EltTy} (M : Memref sig .tc sp s e) (c : Dev nD) (q : PosShare TreeShare)
    (f : Buf (Elt F) (M.view.loc (c : Thread nD τ))) : BI.Storable (upEmb : UEmb _ 𝕄) (pts (F := F) M c q f) := by
  unfold pts; infer_instance

/-- The four quarters-and-halves a window's share is cut in: one half is kept for reading, the other is
    cut again between the two copies that read the window at once. -/
abbrev qK : PosShare TreeShare := fullShare.left
abbrev qH : PosShare TreeShare := fullShare.right
abbrev qA : PosShare TreeShare := fullShare.right.left
abbrev qB : PosShare TreeShare := fullShare.right.right

/-! ## The contents -/

/-- Device `c`'s rows of `x`, its columns of `w`, and the two scales. -/
def xC (c : Dev nD) : Vec F S1024x4096 .f32 := m ((c : Thread nD τ).loc main_arg0)
def wC (c : Dev nD) : Vec F S4096x512 .f32 := m ((c : Thread nD τ).loc main_arg1)
def saC (c : Dev nD) : Vec F S1 .f32 := m ((c : Thread nD τ).loc main_arg2)
def sbC (c : Dev nD) : Vec F S1 .f32 := m ((c : Thread nD τ).loc main_arg3)
/-- The one index of a scale's array. -/
def i0 : S1.Idx := fun | 0 => (⟨0, Nat.one_pos⟩ : Fin 1)
def sa (c : Dev nD) : Elt F .f32 := saC m c i0
def sb (c : Dev nD) : Elt F .f32 := sbC m c i0

/-- The rounded rows and columns. -/
def xqC (c : Dev nD) : Vec F S1024x4096 .fp8e5m2 := truncf .fp8e5m2 (xC m c) bitsLt_fp8e5m2_f32
def wqC (c : Dev nD) : Vec F S4096x512 .fp8e5m2 := truncf .fp8e5m2 (wC m c) bitsLt_fp8e5m2_f32

/-- The upper and the lower half of 1024 rows. -/
def topOf {e : EltTy} (v : Vec F S1024x4096 e) : Vec F S512x4096 e := fun j => v (topR.emb j)
def botOf {e : EltTy} (v : Vec F S1024x4096 e) : Vec F S512x4096 e := fun j => v (botR.emb j)

/-- The five blocks of the result, as the staging slots hold them. -/
def p0 (c : Dev nD) : FVec F S1x1024x512 .f32 := k0_pay5 (sa m c) (sb m c) (xqC m c) (wqC m c)
def p1 (c : Dev nD) : FVec F S1x1024x512 .f32 := k0_pay6 (k0_pay4 (sa m c) (sb m c)) (xqC m (prv c)) (wqC m c)
def p2 (c : Dev nD) : FVec F S1x1024x512 .f32 := k0_pay7 (k0_pay4 (sa m c) (sb m c)) (xqC m (nxt c)) (wqC m c)
def p3 (c : Dev nD) : FVec F S1x512x512 .f32 := k0_pay8 (k0_pay4 (sa m c) (sb m c)) (topOf (xqC m (opp c))) (wqC m c)
def p4 (c : Dev nD) : FVec F S1x512x512 .f32 := k0_pay9 (k0_pay4 (sa m c) (sb m c)) (botOf (xqC m (opp c))) (wqC m c)

/-- The index of row `r` and column `j`, the row in range by hypothesis. -/
def ix3 (n k : ℕ) (r : ℕ) (hr : r < n) (j : Fin k) : (⟨3, ![1, n, k]⟩ : Shape).Idx :=
  fun | 0 => (⟨0, Nat.one_pos⟩ : Fin 1) | 1 => (⟨r, hr⟩ : Fin n) | 2 => j

/-- The whole result of device `c`, row by row. -/
def outC (c : Dev nD) : Vec F S4096x512 .f32 := fun i =>
  if (i 0).val / 1024 = c.val then p0 m c (ix3 1024 512 ((i 0).val % 1024) (Nat.mod_lt _ (by decide)) (i 1))
  else if (i 0).val / 1024 = (prv c).val then p1 m c (ix3 1024 512 ((i 0).val % 1024) (Nat.mod_lt _ (by decide)) (i 1))
  else if (i 0).val / 1024 = (nxt c).val then p2 m c (ix3 1024 512 ((i 0).val % 1024) (Nat.mod_lt _ (by decide)) (i 1))
  else if (i 0).val % 1024 < 512 then p3 m c (ix3 512 512 ((i 0).val % 512) (Nat.mod_lt _ (by decide)) (i 1))
  else p4 m c (ix3 512 512 ((i 0).val % 512) (Nat.mod_lt _ (by decide)) (i 1))

/-! ## The semaphores and what they carry -/

abbrev barS : Sem sig := 0
abbrev barCell (c : Dev nD) : GSem nD τ sig := ((c : Thread nD τ), .reg barS)
abbrev dq (n : ℕ) (h : n < 22) : DmaSem sig := ⟨n, h⟩
abbrev dCell (c : Dev nD) (q : DmaSem sig) : GSem nD τ sig := ((c : Thread nD τ), .dma q)

abbrev NH : ℕ := rlT.view.dmaCredit
abbrev NX : ℕ := xfT.view.dmaCredit
abbrev NW : ℕ := wfM.view.dmaCredit
abbrev NO : ℕ := (oW0 0).view.dmaCredit
abbrev NP : ℕ := (oW3 0).view.dmaCredit

/-- The amount the one duty of a DMA semaphore pays. -/
def amt (q : DmaSem sig) : ℕ :=
  if q.val < 14 then NH else if q.val < 17 then NO else if q.val < 19 then NP else if q.val < 21 then NX else NW

theorem amt_pos (q : DmaSem sig) : 0 < amt q := by
  unfold amt; split_ifs <;> exact View.dmaCredit_pos _ (by decide)

/-- What the one duty of DMA semaphore `q` of device `c` delivers. -/
def pay (c : Dev nD) (q : DmaSem sig) : sProp 𝕄 := match q.val with
  | 2 => pts xqT c qA (xqC m c)
  | 3 => pts xqB c qB (xqC m c)
  | 4 => pts xqB c qA (xqC m c)
  | 5 => pts xqT c qB (xqC m c)
  | 6 => pts rlT c qH (xqC m (prv c))
  | 7 => pts rrB c qH (xqC m (nxt c))
  | 8 => pts rlT c fullShare (xqC m (prv c))
  | 9 => pts rlB c fullShare (xqC m (prv c))
  | 10 => pts rrB c fullShare (xqC m (nxt c))
  | 11 => pts rrT c fullShare (xqC m (nxt c))
  | 12 => pts hlM c fullShare (topOf (xqC m (opp c)))
  | 13 => pts hrM c fullShare (botOf (xqC m (opp c)))
  | 14 => iprop(pts (oW0 c) c fullShare (outC m c) ∗ ∃ f, pts sM0 c fullShare f)
  | 15 => iprop(pts (oW1 c) c fullShare (outC m c) ∗ ∃ f, pts sM1 c fullShare f)
  | 16 => iprop(pts (oW2 c) c fullShare (outC m c) ∗ ∃ f, pts sM2 c fullShare f)
  | 17 => iprop(pts (oW3 c) c fullShare (outC m c) ∗ ∃ f, pts sM3 c fullShare f)
  | 18 => iprop(pts (oW4 c) c fullShare (outC m c) ∗ ∃ f, pts sM4 c fullShare f)
  | 19 => iprop(pts xfT c fullShare (xC m c) ∗ pts aT c fullShare (xC m c))
  | 20 => iprop(pts xfB c fullShare (xC m c) ∗ pts aB c fullShare (xC m c))
  | 21 => iprop(pts wfM c fullShare (wC m c) ∗ pts bM c fullShare (wC m c))
  | _ => iprop(emp)

instance pay_storable (c : Dev nD) (q : DmaSem sig) : BI.Storable (upEmb : UEmb _ 𝕄) (pay m c q) := by
  unfold pay; split <;> infer_instance

/-- What the two barrier units of device `c` bring: the one from `nxt c` (duty `true`) the buffers of
    `nxt c` that `c` writes, the one from `prv c` (duty `false`) those of `prv c`. -/
def barT (c : Dev nD) : sProp 𝕄 := iprop((∃ f, pts rlM (nxt c) fullShare f) ∗ ∃ f, pts hlM (nxt c) fullShare f)
def barF (c : Dev nD) : sProp 𝕄 := iprop((∃ f, pts rrM (prv c) fullShare f) ∗ ∃ f, pts hrM (prv c) fullShare f)

instance barT_storable (c : Dev nD) : BI.Storable (upEmb : UEmb _ 𝕄) (barT (F := F) c) := by unfold barT; infer_instance
instance barF_storable (c : Dev nD) : BI.Storable (upEmb : UEmb _ 𝕄) (barF (F := F) c) := by unfold barF; infer_instance

def dutySet : SemLoc sig → Finset Bool
  | .reg _ => Finset.univ
  | .dma q => if 2 ≤ q.val then {false} else ∅
def payAt (c : Dev nD) : SemLoc sig → Bool → sProp 𝕄
  | .reg _, true => barT c
  | .reg _, false => barF c
  | .dma q, _ => pay m c q
def amtAt : SemLoc sig → ℕ
  | .reg _ => 1
  | .dma q => amt q

instance payAt_storable (c : Dev nD) (s : SemLoc sig) (d : Bool) : BI.Storable (upEmb : UEmb _ 𝕄) (payAt m c s d) := by
  cases s <;> cases d <;> (unfold payAt; dsimp only; infer_instance)

/-- The schedule of the whole exchange. -/
def Rd : Rounds.Schedule (GSem nD τ sig) Bool 𝕄 where
  duties g r := if r = 0 ∧ g.1.2 = .tc then dutySet g.2 else ∅
  unitless _ := False
  amount g _ _ := amtAt g.2
  payload g _ d := payAt m g.1.1 g.2 d
  amount_pos g _ _ _ := by
    show 0 < amtAt g.2
    cases g.2 with
    | reg _ => exact Nat.one_pos
    | dma q => exact amt_pos q

instance Rd_storable (g : GSem nD τ sig) (r : ℕ) (d : Bool) : BI.Storable (upEmb : UEmb _ 𝕄) ((Rd (F := F) m).payload g r d) := by
  show BI.Storable upEmb (payAt m g.1.1 g.2 d); infer_instance

theorem duties_bar (c : Dev nD) : (Rd (F := F) m).duties (barCell c) 0 = Finset.univ := by
  dsimp only [Rd]; exact if_pos ⟨rfl, rfl⟩
theorem duties_dma (c : Dev nD) (q : DmaSem sig) (hq : 2 ≤ q.val) : (Rd (F := F) m).duties (dCell c q) 0 = {false} := by
  dsimp only [Rd]; exact (if_pos ⟨rfl, rfl⟩).trans (if_pos hq)
theorem duties_later (g : GSem nD τ sig) : ∀ r, 1 ≤ r → (Rd (F := F) m).duties g r = ∅ :=
  fun r hr => by dsimp only [Rd]; exact if_neg fun h => by omega

theorem expect_bar (c : Dev nD) : (Rd (F := F) m).expect (barCell c) 0 = 2 := by
  unfold Schedule.expect Schedule.amountOf
  rw [duties_bar]; rfl
theorem expect_dma (c : Dev nD) (q : DmaSem sig) (hq : 2 ≤ q.val) : (Rd (F := F) m).expect (dCell c q) 0 = amt q := by
  unfold Schedule.expect Schedule.amountOf
  rw [duties_dma m c q hq, Finset.sum_singleton]; rfl

theorem rest_bar (c : Dev nD) : bigSep ((Rd (F := F) m).duties (barCell c) 0 \ ∅) (fun d => (Rd (F := F) m).payload (barCell c) 0 d)
    = iprop(barF c ∗ barT c) := by
  rw [Finset.sdiff_empty, duties_bar, bigSep_univ_eq_bigSepL [false, true] (by decide) (by decide), bigSepL_cons_cons, bigSepL_singleton]
  rfl
theorem rest_dma (c : Dev nD) (q : DmaSem sig) (hq : 2 ≤ q.val) :
    bigSep ((Rd (F := F) m).duties (dCell c q) 0 \ ∅) (fun d => (Rd (F := F) m).payload (dCell c q) 0 d) = pay m c q := by
  rw [Finset.sdiff_empty, duties_dma m c q hq, bigSep_singleton]; rfl

/-! ## What each device owes, and the levels -/

/-- What device `c` still owes, by what it has paid already: last `prv c`'s semaphore `recv 5`, before it `nxt c`'s
    `recv 4`, then `recv 3`, `recv 1`, `recv 2`, `recv 0` in turn, and first one barrier unit to either side. -/
def O7 (c : Dev nD) : CellTallies nD τ sig Unit := 0 + tallyAt (dCell (prv c) 13) () NH
def O6 (c : Dev nD) : CellTallies nD τ sig Unit := O7 c + tallyAt (dCell (nxt c) 12) () NH
def O5 (c : Dev nD) : CellTallies nD τ sig Unit := O6 c + tallyAt (dCell (prv c) 11) () NH
def O4 (c : Dev nD) : CellTallies nD τ sig Unit := O5 c + tallyAt (dCell (nxt c) 9) () NH
def O3 (c : Dev nD) : CellTallies nD τ sig Unit := O4 c + tallyAt (dCell (prv c) 10) () NH
def O2 (c : Dev nD) : CellTallies nD τ sig Unit := O3 c + tallyAt (dCell (nxt c) 8) () NH
def O1 (c : Dev nD) : CellTallies nD τ sig Unit := O2 c + tallyAt (barCell (nxt c)) () 1
def O0 (c : Dev nD) : CellTallies nD τ sig Unit := O1 c + tallyAt (barCell (prv c)) () 1

def L (g : GSem nD τ sig) : Finset Unit := if g.1.2 = .tc then {()} else ∅

/-- Local semaphores lowest, then the barrier, then the first step's receives, then the second's. -/
def lvS : SemLoc sig → ℕ
  | .reg _ => 1
  | .dma q => if q.val < 8 then 0 else if q.val < 12 then 2 else if q.val < 14 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- Everything owed in `O` is owed to semaphores of level `n` or higher. -/
def Above (n : ℕ) (O : CellTallies nD τ sig Unit) : Prop := ∀ g u, 0 < O g u → g.1.2 = .tc ∧ n ≤ lvS g.2

theorem above_zero (n : ℕ) : Above n 0 := fun g u h => absurd h (Nat.lt_irrefl 0)
theorem above_add {n : ℕ} {O : CellTallies nD τ sig Unit} (h : Above n O) (c : Dev nD) (s : SemLoc sig) (hs : n ≤ lvS s) (k : ℕ) :
    Above n (O + tallyAt ((c : Thread nD τ), s) () k) := fun g u hg => by
  rw [Pi.add_apply, Finsupp.add_apply, tallyAt_apply] at hg
  by_cases h' : 0 < O g u
  · exact h g u h'
  · split at hg
    · rename_i e; obtain ⟨rfl, -⟩ := e; exact ⟨rfl, hs⟩
    · omega

theorem above7 (c : Dev nD) : Above 3 (O7 c) := above_add (above_zero 3) _ _ (by decide) _
theorem above6 (c : Dev nD) : Above 3 (O6 c) := above_add (above7 c) _ _ (by decide) _
theorem above5 (c : Dev nD) : Above 2 (O5 c) :=
  above_add (above_add (above_add (above_zero 2) _ _ (by decide) _) _ _ (by decide) _) _ _ (by decide) _
theorem above4 (c : Dev nD) : Above 2 (O4 c) := above_add (above5 c) _ _ (by decide) _
theorem above3 (c : Dev nD) : Above 2 (O3 c) := above_add (above4 c) _ _ (by decide) _
theorem above2 (c : Dev nD) : Above 2 (O2 c) := above_add (above3 c) _ _ (by decide) _
theorem above_mono {n k : ℕ} (h : k ≤ n) {O : CellTallies nD τ sig Unit} (hO : Above n O) : Above k O :=
  fun g u hg => ⟨(hO g u hg).1, h.trans (hO g u hg).2⟩
theorem above0 (c : Dev nD) : Above 1 (O0 c) :=
  above_add (above_add (above_mono (by decide) (above2 c)) _ _ (by decide) _) _ _ (by decide) _

/-- A device may wait on a semaphore of a level below everything it owes. -/
theorem mayWait (c : Dev nD) (s : SemLoc sig) {n : ℕ} {O : CellTallies nD τ sig Unit} (hO : Above n O) (hs : lvS s < n) :
    (levAts L lv : sProp 𝕄) ⊢ MayWait (c : Thread nD τ) s () O :=
  MayOwe.of_cut (L := L) (lev := lv) (lvS s) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_refl _)
    (fun g u hg => lt_of_lt_of_le hs (hO g u hg).2)

end Cert.Gather
-- ==== Proof.Steps.lean ====
/-
# The steps of the exchange

One rule for each kind of step of a device: a local copy, a remote copy, a wait, a barrier signal, the
barrier wait. Each takes the shared records (that every semaphore follows the plan) and what the step
uses, and leaves what it delivers.
-/
module

public import proofs.«01_k».proof.Proof.Plan

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The shared records -/

/-- A device's semaphores that follow the plan: the barrier and the twenty of its copies. -/
abbrev KIx : Type := Option (Fin 20)
def osem (k : Fin 20) : SemLoc sig := .dma ⟨k.val + 2, by have := k.isLt; show k.val + 2 < 22; omega⟩
def ksem : KIx → SemLoc sig
  | none => .reg barS
  | some k => osem k
def kcell (ck : Dev nD × KIx) : GSem nD τ sig := ((ck.1 : Thread nD τ), ksem ck.2)

/-- Every semaphore of every device follows the plan, from its first round. -/
def Recs : sProp 𝕄 :=
  bigSep Finset.univ (fun ck : Dev nD × KIx => iprop((∃ κ, cellInv ER (Rd m) κ (kcell ck)) ∗ reached ER (kcell ck) 0))

instance Recs_persistent : BI.Persistent (Recs (F := F) m) := by unfold Recs; infer_instance

theorem recs_bar (c : Dev nD) : Recs m ⊢ iprop((∃ κ, cellInv ER (Rd m) κ (barCell c)) ∗ reached ER (barCell c) 0) :=
  bigSep_elim (Finset.mem_univ ((c, none) : Dev nD × KIx))

theorem recs_dma (c : Dev nD) (q : DmaSem sig) (hq : 2 ≤ q.val) :
    Recs m ⊢ iprop((∃ κ, cellInv ER (Rd m) κ (dCell c q)) ∗ reached ER (dCell c q) 0) := by
  have h := bigSep_elim (M := 𝕄) (Φ := fun ck : Dev nD × KIx => iprop((∃ κ, cellInv ER (Rd m) κ (kcell ck)) ∗ reached ER (kcell ck) 0))
    (Finset.mem_univ ((c, some ⟨q.val - 2, by have := q.isLt; have h22 : q.val < 22 := this; omega⟩) : Dev nD × KIx))
  have e : kcell (c, some ⟨q.val - 2, by have := q.isLt; have h22 : q.val < 22 := this; omega⟩) = dCell c q := by
    show ((c : Thread nD τ), SemLoc.dma _) = _
    congr 2; exact Fin.ext (Nat.sub_add_cancel hq)
  rw [e] at h; exact h

/-! ## What a device holds of a semaphore -/

def At (c : Dev nD) (q : DmaSem sig) : sProp 𝕄 := atPos ER (dCell c q) 0 ∅ 0
def Tok (c : Dev nD) (q : DmaSem sig) : sProp 𝕄 := dutyTok ER (dCell c q) 0 false
def Cred (c : Dev nD) (q : DmaSem sig) : sProp 𝕄 := cred (tallyAt (dCell c q) () (amt q))
def Owe (c : Dev nD) (O : CellTallies nD τ sig Unit) : sProp 𝕄 := iprop(∃ W, owes (c : Thread nD τ) O W)
/-- The counter of the semaphore at zero again, its round over. -/
def Done (c : Dev nD) (q : DmaSem sig) : sProp 𝕄 := semVal (dCell c q) 0

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The steps -/

section Steps

variable (c : Dev nD) {α : Type} {Q : α → sProp (MT nD τ sig Unit (Elt F) ℕ UU ℕ)} {k : PUnit → Prog (TpuEff nD τ sig (Elt F) Λ₀ .tc) α}

theorem step_ret (a : α) : Q a ⊢ WP c (.ret a) Q := by
  exact fupd_intro (PROP := sProp 𝕄)

/-- A local copy from `src` to `dst`: the semaphore `q` will bring both windows back. -/
theorem step_copy (q : DmaSem sig) {sem : DmaSem sig} (hs : sem = q) {sp sp' : Space} {s : Shape} {e : EltTy} {src : Memref sig .tc sp s e} {dst : Memref sig .tc sp' s e}
    {hsrc : src.view.WordExact} {hdst : dst.view.WordExact} {hsem : DmaTarget.Typed (nD := nD) (τ := τ) (p := .tc) sp (.dma sem) (.here dst)}
    (qs : PosShare TreeShare) (fs : Buf (Elt F) (src.view.loc (c : Thread nD τ))) (fd : Buf (Elt F) (dst.view.loc (c : Thread nD τ)))
    (hq : 2 ≤ q.val) (hN : dst.view.dmaCredit = amt q)
    (hpay : iprop(pts dst c fullShare (dst.view.write (Elt F) fd (src.view.read (Elt F) fs) Finset.univ) ∗ pts src c qs fs) ⊢ pay m c q) :
    iprop(Recs m ∗ pts src c qs fs ∗ pts dst c fullShare fd ∗ Tok c q)
      ⊢ iprop((Cred c q -∗ WP c (k ⟨⟩) Q) -∗ WP c (.op (.enqueueDma src (.here dst) (.dma sem) hsrc hdst hsem) k) Q) := by
  subst hs
  unfold pts Tok Cred
  unfold pts at hpay
  iintro ⟨#HR, Hs, Hd, Ht⟩ Hk
  ihave Hr := (recs_dma m c sem hq) $$ HR
  icases Hr with ⟨⟨%κ, #HI⟩, #Hre⟩
  iapply (Rounds.wp_copy_pointsTo 𝒱₀ ER (Rd m) (c : Thread nD τ) none (κ := κ) (sem := .dma sem) (r := 0) (d := false) (q := qs) (fs := fs) (fd := fd)
      (by rw [duties_dma m c sem hq]; exact Finset.mem_singleton_self _) () (amt sem) hN rfl hpay) $$ [Hs Hd Ht]
  · isplitr; · iexact HI
    isplitl [Hs]; · iexact Hs
    isplitl [Hd]; · iexact Hd
    isplitl [Ht]; · iexact Ht
    iexact Hre
  iexact Hk

/-- A remote copy from `src` to the window `dst` of device `n`: `qs` will bring the source's share back, and
    device `n`'s semaphore `qr` the window written; the latter is no longer owed. -/
theorem step_send (qs qr : DmaSem sig) {semS semR : DmaSem sig} (hsS : semS = qs) (hsR : semR = qr) {sp sp' : Space} {s : Shape} {e : EltTy} {src : Memref sig .tc sp s e} {dst : Memref sig .tc sp' s e}
    (n n' : Dev nD) (hn : n' = n)
    {hsc : (dst : Memref sig (Dev.tc n' : Thread nD τ).2.kind sp' s e).view.ref.isScScratch = false}
    {hsrc : src.view.WordExact} {hdst : dst.view.WordExact}
    {hsem : DmaTarget.Typed sp (.dma semR) (.remote (Dev.tc n' : Thread nD τ) dst (.dma semS) hsc)}
    (q : PosShare TreeShare) (fs : Buf (Elt F) (src.view.loc (c : Thread nD τ))) (fd : Buf (Elt F) (dst.view.loc (n : Thread nD τ)))
    (O O' : CellTallies nD τ sig Unit)
    (hqs : 2 ≤ qs.val) (hqr : 2 ≤ qr.val) (hNs : dst.view.dmaCredit = amt qs) (hNr : dst.view.dmaCredit = amt qr)
    (hO : O' = O + tallyAt (dCell n qr) () (amt qr))
    (hp₁ : pts src c q fs ⊢ pay m c qs)
    (hp₂ : pts dst n fullShare (dst.view.write (Elt F) fd (src.view.read (Elt F) fs) Finset.univ) ⊢ pay m n qr) :
    iprop(Recs m ∗ pts src c q fs ∗ pts dst n fullShare fd ∗ Owe c O' ∗ Tok c qs ∗ Tok n qr)
      ⊢ iprop(((Cred c qs ∗ Owe c O) -∗ WP c (k ⟨⟩) Q)
          -∗ WP c (.op (.enqueueDma src (.remote (Dev.tc n' : Thread nD τ) dst (.dma semS) hsc) (.dma semR) hsrc hdst hsem) k) Q) := by
  subst hsS; subst hsR
  subst hn
  unfold pts Tok Cred Owe
  unfold pts at hp₁ hp₂
  iintro ⟨#HR, Hs, Hd, ⟨%W, HO⟩, Ht, Ht'⟩ Hk
  ihave Hr := (recs_dma m c semS hqs) $$ HR
  icases Hr with ⟨⟨%κ, #HI⟩, #Hre⟩
  ihave Hr := (recs_dma m n' semR hqr) $$ HR
  icases Hr with ⟨⟨%κ', #HI'⟩, #Hre'⟩
  iapply (Rounds.wp_send_pointsTo 𝒱₀ ER (Rd m) (c : Thread nD τ) none (κ₁ := κ) (κ₂ := κ') (sS := .dma semS) (sem := .dma semR) (r₁ := 0) (r₂ := 0) (d₁ := false) (d₂ := false)
      (q := q) (fs := fs) (fd := fd) (c' := (n' : Thread nD τ))
      (by rw [duties_dma m c semS hqs]; exact Finset.mem_singleton_self _) (by rw [duties_dma m n' semR hqr]; exact Finset.mem_singleton_self _)
      () () (amt semR) hNr (hNs.symm.trans hNr) rfl O hO (W := W) hp₁ hp₂) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hre
    isplitl [Ht']; · iexact Ht'
    iexact Hre'
  iintro ⟨Hc, HO⟩
  iapply Hk
  isplitl [Hc]
  · rw [show amt semS = amt semR from hNs.symm.trans hNr]; iexact Hc
  · iexists W; iexact HO

/-- A wait on semaphore `q`, its level below everything owed: its delivery, and its counter back at zero. -/
theorem step_wait (q : DmaSem sig) {sem : DmaSem sig} (hs : sem = q) {sp sp' : Space} {s s' : Shape} {e e' : EltTy}
    {src : Memref sig .tc sp s e} {dst : Memref sig .tc sp' s' e'} {hsrc : src.view.WordExact} {hdst : dst.view.WordExact}
    (hN : dst.view.dmaCredit = amt q)
    (O : CellTallies nD τ sig Unit) (n : ℕ) (hO : Above n O) (hl : lvS (.dma q) < n) (hq : 2 ≤ q.val) :
    iprop(Recs m ∗ levAts L lv ∗ Cred c q ∗ Owe c O ∗ At c q)
      ⊢ iprop(((Owe c O ∗ Done c q ∗ pay m c q) -∗ WP c (k ⟨⟩) Q) -∗ WP c (.op (.waitDma2 sem src dst hsrc hdst) k) Q) := by
  subst hs
  have hw : ∀ K : PUnit → sProp 𝕄, wpE (defs₀ (F := F)) 𝒱₀ (c : Thread nD τ) none Set.univ (.waitDma2 sem src dst hsrc hdst) K
      = waitSpec (c : Thread nD τ) Set.univ (.dma sem) (amt sem) K := by
    rw [← hN]; exact wpE_waitDma2_eq 𝒱₀ (c : Thread nD τ) none Set.univ
  unfold Cred Owe At Done
  iintro ⟨#HR, #HL, Hc, ⟨%W, HO⟩, Ha⟩ Hk
  ihave Hr := (recs_dma m c sem hq) $$ HR
  icases Hr with ⟨⟨%κ, #HI⟩, #Hre⟩
  iapply (Rounds.wp_wait_rest_token 𝒱₀ ER (Rd m) (c : Thread nD τ) none (κ := κ)
      hw (Set.mem_univ _) () (O := O) (W := W) (R := 0) (m := 0) (T := ∅)
      (by rw [Nat.zero_add]; exact (expect_dma m c sem hq).symm)) $$ [Hc HO Ha]
  · isplitr; · iexact HI
    isplitl [Hc]; · iexact Hc
    isplitl [HO]; · iexact HO
    isplitr; · iapply (mayWait c (.dma sem) hO hl); iexact HL
    iexact Ha
  iintro ⟨HO, Ha, -, Hp⟩
  ihave Hp := (Entails.of_eq (rest_dma m c sem hq)) $$ Hp
  imod (Rounds.cell_close ER (Rd m) (Set.mem_univ _) (fun h => h) (R := 0 + 1) (duties_later m _)) $$ [Ha] with Hv
  · isplitr; · iexact HI
    iexact Ha
  iapply Hk
  isplitl [HO]; · iexists _; iexact HO
  isplitl [Hv]; · iexact Hv
  iexact Hp

/-- A barrier unit sent to device `n`, paying its duty `d` with what that duty brings. -/
theorem step_signal (n n' : Dev nD) (hn : n' = n) (d : Bool) {amtW : ℤ} (hw : amtW = ((1 : ℕ) : ℤ))
    (O O' : CellTallies nD τ sig Unit) (hO : O' = O + tallyAt (barCell n) () 1) :
    iprop(Recs m ∗ payAt m n (.reg barS) d ∗ Owe c O' ∗ dutyTok ER (barCell n) 0 d)
      ⊢ iprop((Owe c O -∗ WP c (k ⟨⟩) Q)
          -∗ WP c (.op (.semSignal (Dev.tc n' : Thread nD τ) barS amtW) k) Q) := by
  subst hn; subst hw
  unfold Owe
  iintro ⟨#HR, Hp, ⟨%W, HO⟩, Ht⟩ Hk
  ihave Hr := (recs_bar m n') $$ HR
  icases Hr with ⟨⟨%κ, #HI⟩, #Hre⟩
  iapply (Rounds.wp_signal 𝒱₀ ER (Rd m) (c : Thread nD τ) none (dst := (n' : Thread nD τ)) (κ := κ) (d := d) (r := 0)
      (by rw [duties_bar]; exact Finset.mem_univ _) rfl () O hO) $$ [HO Ht Hp]
  · isplitr; · iexact HI
    isplitl [HO]; · iexact HO
    isplitl [Ht]; · iexact Ht
    isplitl [Hp]
    · iapply (Entails.of_eq (show payAt m n' (.reg barS) d = (Rd m).payload (barCell n') 0 d from rfl)); iexact Hp
    iexact Hre
  iintro HO
  iapply Hk
  iexists W; iexact HO

/-- The barrier wait: both neighbours' buffers, and the counter back at zero. -/
theorem step_barrier {amtW : ℤ} (hA : amtW = ((2 : ℕ) : ℤ))
    (O : CellTallies nD τ sig Unit) (n : ℕ) (hO : Above n O) (hl : 1 < n) :
    iprop(Recs m ∗ levAts L lv ∗ cred (tallyAt (barCell c) () 2) ∗ Owe c O ∗ atPos ER (barCell c) 0 ∅ 0)
      ⊢ iprop(((Owe c O ∗ semVal (barCell c) 0 ∗ barF c ∗ barT c) -∗ WP c (k ⟨⟩) Q) -∗ WP c (.op (.semWait barS amtW) k) Q) := by
  subst hA
  have hw : ∀ K : PUnit → sProp 𝕄, wpE (defs₀ (F := F)) 𝒱₀ (c : Thread nD τ) none Set.univ (.semWait barS ((2 : ℕ) : ℤ)) K
      = waitSpec (c : Thread nD τ) Set.univ (.reg barS) 2 K := wpE_semWait_eq 𝒱₀ (c : Thread nD τ) none Set.univ
  unfold Owe
  iintro ⟨#HR, #HL, Hc, ⟨%W, HO⟩, Ha⟩ Hk
  ihave Hr := (recs_bar m c) $$ HR
  icases Hr with ⟨⟨%κ, #HI⟩, #Hre⟩
  iapply (Rounds.wp_wait_rest_token 𝒱₀ ER (Rd m) (c : Thread nD τ) none (κ := κ)
      hw (Set.mem_univ _) () (O := O) (W := W) (R := 0) (m := 0) (T := ∅)
      (by rw [Nat.zero_add]; exact (expect_bar m c).symm)) $$ [Hc HO Ha]
  · isplitr; · iexact HI
    isplitl [Hc]; · iexact Hc
    isplitl [HO]; · iexact HO
    isplitr; · iapply (mayWait c (.reg barS) hO hl); iexact HL
    iexact Ha
  iintro ⟨HO, Ha, -, Hp⟩
  ihave Hp := (Entails.of_eq (rest_bar m c)) $$ Hp
  imod (Rounds.cell_close ER (Rd m) (Set.mem_univ _) (fun h => h) (R := 0 + 1) (duties_later m _)) $$ [Ha] with Hv
  · isplitr; · iexact HI
    iexact Ha
  iapply Hk
  isplitl [HO]; · iexists _; iexact HO
  isplitl [Hv]; · iexact Hv
  iexact Hp

end Steps

end Cert.Gather
-- ==== Proof.Windows.lean ====
/-
# The windows

How the ownership of a buffer is cut into its windows and shares and put together again, what a load
and a store of a window do, and which rows of the result each of the five blocks covers.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting and joining -/

section Cut

variable {sp : Space} {s : Shape} {e : EltTy} (M : Memref sig .tc sp s e) (c : Dev nD)

theorem pts_keep (f : Buf (Elt F) (M.view.loc (c : Thread nD τ))) : pts M c fullShare f ⊣⊢ iprop(pts M c qK f ∗ pts M c qH f) :=
  pointsTo_share (PosShare.mem_left_op_right fullShare)
theorem pts_lend (f : Buf (Elt F) (M.view.loc (c : Thread nD τ))) : pts M c qH f ⊣⊢ iprop(pts M c qA f ∗ pts M c qB f) :=
  pointsTo_share (PosShare.mem_left_op_right fullShare.right)

theorem pts_congr (q : PosShare TreeShare) {f g : Buf (Elt F) (M.view.loc (c : Thread nD τ))} (h : ∀ x, f (M.view.emb x) = g (M.view.emb x)) :
    pts M c q f = pts M c q g :=
  pointsTo_congr fun i hi => by
    obtain ⟨x, -, rfl⟩ := Finset.mem_map.mp hi; exact h x

end Cut

theorem rows_union : topR.set ∪ botR.set = Finset.univ := by
  ext i
  have h0 : (i 0).val < 1024 := (i 0).isLt
  have h1 : (i 1).val < 4096 := (i 1).isLt
  simp only [Finset.mem_union, Rect.mem_set_unit, Finset.mem_univ, iff_true]
  by_cases h : (i 0).val < 512
  · refine .inl fun a => ?_
    fin_cases a
    · exact ⟨Nat.zero_le _, by show (i 0).val < 0 + 512; omega⟩
    · exact ⟨Nat.zero_le _, by show (i 1).val < 0 + 4096; omega⟩
  · refine .inr fun a => ?_
    fin_cases a
    · exact ⟨by show 512 ≤ (i 0).val; omega, by show (i 0).val < 512 + 512; omega⟩
    · exact ⟨Nat.zero_le _, by show (i 1).val < 0 + 4096; omega⟩

theorem rows_disjoint : Disjoint topR.set botR.set := by
  rw [Finset.disjoint_left]
  intro i h1 h2
  rw [Rect.mem_set_unit] at h1 h2
  have a1 : (i 0).val < 0 + 512 := (h1 0).2
  have a2 : 512 ≤ (i 0).val := (h2 0).1
  omega

/-- A buffer of 1024 rows is its two halves. -/
theorem pts_halves {sp : Space} {e : EltTy} (M : Memref sig .tc sp S1024x4096 e) (c : Dev nD) (q : PosShare TreeShare)
    (f : Buf (Elt F) (M.view.loc (c : Thread nD τ))) :
    pts M c q f ⊣⊢ iprop(pts (M.slice topR (fun _ => rfl)) c q f ∗ pts (M.slice botR (fun _ => rfl)) c q f) := by
  have e1 : M.view.set = (M.view.slice topR).set ∪ (M.view.slice botR).set := by
    rw [View.set_slice, View.set_slice, ← Finset.map_union, rows_union]; rfl
  have d : Disjoint (M.view.slice topR).set (M.view.slice botR).set := by
    rw [View.set_slice, View.set_slice, Finset.disjoint_map]; exact rows_disjoint
  unfold pts
  rw [e1]
  exact pointsTo_union d

/-- The whole buffer, as the launch hands it over. -/
theorem pts_whole (b : Ref sig .tc) (c : Dev nD) (q : PosShare TreeShare) (f : Buf (Elt F) ((c : Thread nD τ).loc b)) :
    pts (Memref.whole b) c q f = (((c : Thread nD τ).loc b) ↦{q} f : sProp 𝕄) := by
  unfold pts
  show ((View.whole b).loc (c : Thread nD τ) ↦[(View.whole b).set]{q} f) = _
  rw [View.set_whole]

/-! ## Loads and stores -/

section Access

variable (c : Dev nD) {α : Type} {Q : α → sProp (MT nD τ sig Unit (Elt F) ℕ UU ℕ)}

/-- A load through a rectangle of a buffer of which the whole view is owned. -/
theorem step_load {cs : CoreSpace} {s : Shape} {e : EltTy} (M : Memref sig .tc cs s e) (r : Rect s) {hl : M.view.LoadsAt r.toLoadRect}
    (q : PosShare TreeShare) (f : Buf (Elt F) (M.view.loc (c : Thread nD τ)))
    {k : (r.toLoadRect.shape.Idx → Elt F e) → Prog (TpuEff nD τ sig (Elt F) Λ₀ .tc) α} :
    pts M c q f ⊢ iprop((pts M c q f -∗ WP c (k (M.view.readAt (Elt F) r.toLoadRect f)) Q) -∗ WP c (.op (.load M r.toLoadRect hl) k) Q) := by
  unfold pts
  exact wp_load 𝒱₀ (c : Thread nD τ) none Set.univ (Finset.map_subset_map.mpr (Finset.subset_univ _))

/-- A load of exactly the window owned. -/
theorem step_load_win {cs : CoreSpace} {s : Shape} {e : EltTy} (M : Memref sig .tc cs s e) (r : Rect s) (hr : ∀ a, r.stride a = 1) {hl : M.view.LoadsAt r.toLoadRect}
    (q : PosShare TreeShare) (f : Buf (Elt F) (M.view.loc (c : Thread nD τ)))
    {k : (r.toLoadRect.shape.Idx → Elt F e) → Prog (TpuEff nD τ sig (Elt F) Λ₀ .tc) α} :
    pts (M.slice r hr) c q f
      ⊢ iprop((pts (M.slice r hr) c q f -∗ WP c (k (M.view.readAt (Elt F) r.toLoadRect f)) Q) -∗ WP c (.op (.load M r.toLoadRect hl) k) Q) := by
  unfold pts
  exact wp_load_rect 𝒱₀ (c : Thread nD τ) none Set.univ (le_refl _)

/-- A store to exactly the window owned. -/
theorem step_store_win {cs : CoreSpace} {s : Shape} {e : EltTy} (M : Memref sig .tc cs s e) (r : Rect s) (hr : ∀ a, r.stride a = 1)
    {w : r.shape.Idx → Elt F e} {hx : (M.access r).Stores Finset.univ} {hm : Finset.univ = Finset.univ ∨ ∀ a, r.stride a = 1}
    (f : Buf (Elt F) (M.view.loc (c : Thread nD τ)))
    {k : PUnit → Prog (TpuEff nD τ sig (Elt F) Λ₀ .tc) α} :
    pts (M.slice r hr) c fullShare f
      ⊢ iprop((pts (M.slice r hr) c fullShare ((M.access r).write (Elt F) f w Finset.univ) -∗ WP c (k ⟨⟩) Q)
          -∗ WP c (.op (.store M r w Finset.univ hx hm) k) Q) := by
  unfold pts
  exact wp_store 𝒱₀ (c : Thread nD τ) none Set.univ (le_refl _)

/-- A store through a rectangle of a buffer of which the whole view is owned. -/
theorem step_store {cs : CoreSpace} {s : Shape} {e : EltTy} (M : Memref sig .tc cs s e) (r : Rect s)
    {w : r.shape.Idx → Elt F e} {hx : (M.access r).Stores Finset.univ} {hm : Finset.univ = Finset.univ ∨ ∀ a, r.stride a = 1}
    (f : Buf (Elt F) (M.view.loc (c : Thread nD τ)))
    {k : PUnit → Prog (TpuEff nD τ sig (Elt F) Λ₀ .tc) α} :
    pts M c fullShare f
      ⊢ iprop((pts M c fullShare ((M.access r).write (Elt F) f w Finset.univ) -∗ WP c (k ⟨⟩) Q)
          -∗ WP c (.op (.store M r w Finset.univ hx hm) k) Q) := by
  have hS : (M.access r).setOn Finset.univ ⊆ M.view.set := View.set_slice_subset M.view r
  unfold pts
  exact wp_store 𝒱₀ (c : Thread nD τ) none Set.univ (m := M) (r := r) (S := M.view.set) (f := f) hS

end Access

/-- A buffer is the parts of any family of element sets that cover it, each element once. -/
theorem family_split {ℓ : Loc nD τ sig} {n : ℕ} (K : Fin n → Finset (Idx ℓ)) (q : PosShare TreeShare) (f : Buf (Elt F) ℓ)
    (hu : ∀ i, ∃ t, i ∈ K t) (hd : ∀ t t', t ≠ t' → Disjoint (K t) (K t')) :
    (ℓ ↦{q} f : sProp 𝕄) = bigSep Finset.univ fun t => ℓ ↦[K t]{q} f := by
  rw [← pointsTo_biUnion Finset.univ K fun t _ t' _ h => hd t t' h]
  have e : Finset.univ.biUnion K = Finset.univ := by
    ext i; obtain ⟨t, ht⟩ := hu i
    exact ⟨fun _ => Finset.mem_univ _, fun _ => Finset.mem_biUnion.mpr ⟨t, Finset.mem_univ _, ht⟩⟩
  rw [e]

/-- The parts, each at contents of its own, are the buffer at some contents. -/
theorem family_join {ℓ : Loc nD τ sig} {n : ℕ} (K : Fin n → Finset (Idx ℓ)) (q : PosShare TreeShare) (fs : Fin n → Buf (Elt F) ℓ) (f₀ : Buf (Elt F) ℓ)
    (hu : ∀ i, ∃ t, i ∈ K t) (hd : ∀ t t', t ≠ t' → Disjoint (K t) (K t')) :
    (bigSep Finset.univ fun t => ℓ ↦[K t]{q} fs t : sProp 𝕄) ⊢ iprop(∃ g : Buf (Elt F) ℓ, ℓ ↦{q} g) := by
  have e : Finset.univ.biUnion K = Finset.univ := by
    ext i; obtain ⟨t, ht⟩ := hu i
    exact ⟨fun _ => Finset.mem_univ _, fun _ => Finset.mem_biUnion.mpr ⟨t, Finset.mem_univ _, ht⟩⟩
  refine (pointsTo_biUnion_join Finset.univ K fs f₀ fun t _ t' _ h => hd t t' h).trans ?_
  rw [e]
  iintro ⟨%g, -, H⟩
  iexists g; iexact H

/-! ## The rows of the result -/

theorem mem_rows (off : Fin 2 → ℕ) (n : ℕ) (inb : ∀ a, off a + (![n, 512] : Fin 2 → ℕ) a ≤ S4096x512.size a) (h1 : off 1 = 0) (i : S4096x512.Idx) :
    i ∈ (Rect.unit (s := S4096x512) off ![n, 512] inb).set ↔ off 0 ≤ (i 0).val ∧ (i 0).val < off 0 + n := by
  rw [Rect.mem_set_unit]
  constructor
  · intro h; exact h 0
  · intro h a
    have hi : (i 1).val < 512 := (i 1).isLt
    fin_cases a
    · exact h
    · refine ⟨?_, ?_⟩
      · show off 1 ≤ (i 1).val; omega
      · show (i 1).val < off 1 + 512; omega

section Rows
variable (c : Dev nD) (i : S4096x512.Idx)

theorem row_lt : (i 0).val < 4096 := (i 0).isLt

theorem off1_0 : k0_off1 c 0 = 1024 * c.val := by rw [k0_off1_eq]; rfl
theorem off21_0 : k0_off2 c 3#32 0 = 1024 * (prv c).val := by
  have h := k0_off2_eq c 1
  rw [show BitVec.ofNat 32 (1 + 2 * ((1 : Fin 2) : ℕ)) = 3#32 from rfl] at h
  rw [h]; show 1024 * ((c.val + 2 * 1 + 1) % 4) = 1024 * ((c.val + 3) % 4); rfl
theorem off20_0 : k0_off2 c 1#32 0 = 1024 * (nxt c).val := by
  have h := k0_off2_eq c 0
  rw [show BitVec.ofNat 32 (1 + 2 * ((0 : Fin 2) : ℕ)) = 1#32 from rfl] at h
  rw [h]; rfl
theorem off3_0 : k0_off3 c 0 = 1024 * (opp c).val := by rw [k0_off3_eq]; rfl
theorem off4_0 : k0_off4 c 0 = 1024 * (opp c).val + 512 := by rw [k0_off4_eq]; rfl
theorem off1_1 : k0_off1 c 1 = 0 := by rw [k0_off1_eq]; rfl
theorem off21_1 : k0_off2 c 3#32 1 = 0 := by
  have h := k0_off2_eq c 1
  rw [show BitVec.ofNat 32 (1 + 2 * ((1 : Fin 2) : ℕ)) = 3#32 from rfl] at h
  rw [h]; rfl
theorem off20_1 : k0_off2 c 1#32 1 = 0 := by
  have h := k0_off2_eq c 0
  rw [show BitVec.ofNat 32 (1 + 2 * ((0 : Fin 2) : ℕ)) = 1#32 from rfl] at h
  rw [h]; rfl
theorem off3_1 : k0_off3 c 1 = 0 := by rw [k0_off3_eq]; rfl
theorem off4_1 : k0_off4 c 1 = 0 := by rw [k0_off4_eq]; rfl

theorem oW0_set : ((oW0 c).view.set : Finset S4096x512.Idx) = (Rect.unit (s := S4096x512) (k0_off1 c) S1024x512.size (k0_off1_inb c)).set :=
  View.set_slice_whole main_v1 _
theorem oW1_set : ((oW1 c).view.set : Finset S4096x512.Idx) = (Rect.unit (s := S4096x512) (k0_off2 c 3#32) S1024x512.size (k0_off2_inb c 1)).set :=
  View.set_slice_whole main_v1 _
theorem oW2_set : ((oW2 c).view.set : Finset S4096x512.Idx) = (Rect.unit (s := S4096x512) (k0_off2 c 1#32) S1024x512.size (k0_off2_inb c 0)).set :=
  View.set_slice_whole main_v1 _
theorem oW3_set : ((oW3 c).view.set : Finset S4096x512.Idx) = (Rect.unit (s := S4096x512) (k0_off3 c) S512x512.size (k0_off3_inb c)).set :=
  View.set_slice_whole main_v1 _
theorem oW4_set : ((oW4 c).view.set : Finset S4096x512.Idx) = (Rect.unit (s := S4096x512) (k0_off4 c) S512x512.size (k0_off4_inb c)).set :=
  View.set_slice_whole main_v1 _

theorem mem_oW0 : i ∈ (oW0 c).view.set ↔ (i 0).val / 1024 = c.val := by
  rw [oW0_set]
  refine (mem_rows _ 1024 (k0_off1_inb c) (off1_1 c) i).trans ?_
  rw [off1_0]; omega
theorem mem_oW1 : i ∈ (oW1 c).view.set ↔ (i 0).val / 1024 = (prv c).val := by
  rw [oW1_set]
  refine (mem_rows _ 1024 (k0_off2_inb c 1) (off21_1 c) i).trans ?_
  show k0_off2 c 3#32 0 ≤ _ ∧ _ < k0_off2 c 3#32 0 + _ ↔ _
  rw [off21_0]; omega
theorem mem_oW2 : i ∈ (oW2 c).view.set ↔ (i 0).val / 1024 = (nxt c).val := by
  rw [oW2_set]
  refine (mem_rows _ 1024 (k0_off2_inb c 0) (off20_1 c) i).trans ?_
  show k0_off2 c 1#32 0 ≤ _ ∧ _ < k0_off2 c 1#32 0 + _ ↔ _
  rw [off20_0]; omega
theorem mem_oW3 : i ∈ (oW3 c).view.set ↔ (i 0).val / 1024 = (opp c).val ∧ (i 0).val % 1024 < 512 := by
  rw [oW3_set]
  refine (mem_rows _ 512 (k0_off3_inb c) (off3_1 c) i).trans ?_
  rw [off3_0]; omega
theorem mem_oW4 : i ∈ (oW4 c).view.set ↔ (i 0).val / 1024 = (opp c).val ∧ ¬ (i 0).val % 1024 < 512 := by
  rw [oW4_set]
  refine (mem_rows _ 512 (k0_off4_inb c) (off4_1 c) i).trans ?_
  rw [off4_0]; omega

end Rows

/-- The five blocks of rows, as sets. -/
def rowsOf (c : Dev nD) : Fin 5 → Finset S4096x512.Idx := fun
  | 0 => (oW0 c).view.set | 1 => (oW1 c).view.set | 2 => (oW2 c).view.set | 3 => (oW3 c).view.set | 4 => (oW4 c).view.set

/-- Which block a row belongs to. -/
def blkOf (c : Dev nD) (i : S4096x512.Idx) : Fin 5 :=
  if (i 0).val / 1024 = c.val then 0 else if (i 0).val / 1024 = (prv c).val then 1 else if (i 0).val / 1024 = (nxt c).val then 2
  else if (i 0).val % 1024 < 512 then 3 else 4

theorem dev_cases (c : Dev nD) : (prv c).val ≠ c.val ∧ (nxt c).val ≠ c.val ∧ (opp c).val ≠ c.val ∧ (prv c).val ≠ (nxt c).val
    ∧ (opp c).val ≠ (prv c).val ∧ (opp c).val ≠ (nxt c).val := by revert c; decide
theorem dev_cover (c : Dev nD) (n : ℕ) (h : n < 4) : n = c.val ∨ n = (prv c).val ∨ n = (nxt c).val ∨ n = (opp c).val := by
  have h4 : c.val < 4 := c.isLt
  simp only [prv, nxt, opp]; omega

theorem mem_rowsOf (c : Dev nD) (t : Fin 5) (i : S4096x512.Idx) : i ∈ rowsOf c t ↔ blkOf c i = t := by
  have hd := dev_cases c
  have hr := row_lt i
  have hc := dev_cover c ((i 0).val / 1024) (by omega)
  unfold blkOf
  fin_cases t
  · refine (mem_oW0 c i).trans ?_
    split_ifs <;> first | exact ⟨fun _ => rfl, fun _ => by omega⟩ | exact ⟨fun h => by omega, fun h => absurd h (by decide)⟩
  · refine (mem_oW1 c i).trans ?_
    split_ifs <;> first | exact ⟨fun _ => rfl, fun _ => by omega⟩ | exact ⟨fun h => by omega, fun h => absurd h (by decide)⟩
  · refine (mem_oW2 c i).trans ?_
    split_ifs <;> first | exact ⟨fun _ => rfl, fun _ => by omega⟩ | exact ⟨fun h => by omega, fun h => absurd h (by decide)⟩
  · refine (mem_oW3 c i).trans ?_
    split_ifs <;> first | exact ⟨fun _ => rfl, fun _ => by omega⟩ | exact ⟨fun h => by omega, fun h => absurd h (by decide)⟩
  · refine (mem_oW4 c i).trans ?_
    split_ifs <;> first | exact ⟨fun _ => rfl, fun _ => by omega⟩ | exact ⟨fun h => by omega, fun h => absurd h (by decide)⟩

/-- The result is its five blocks of rows. -/
theorem out_split (c : Dev nD) (f : Vec F S4096x512 .f32) :
    pts oM c fullShare f = iprop(pts (oW0 c) c fullShare f ∗ pts (oW1 c) c fullShare f ∗ pts (oW2 c) c fullShare f
      ∗ pts (oW3 c) c fullShare f ∗ pts (oW4 c) c fullShare f) := by
  rw [pts_whole]
  refine (family_split (ℓ := (c : Thread nD τ).loc main_v1) (rowsOf c) fullShare f (fun i => ⟨blkOf c i, (mem_rowsOf c _ i).mpr rfl⟩) fun t t' hne => ?_).trans ?_
  · rw [Finset.disjoint_left]; intro i h1 h2
    exact hne (((mem_rowsOf c t i).mp h1).symm.trans ((mem_rowsOf c t' i).mp h2))
  · rw [bigSep_univ_eq_bigSepL [0, 1, 2, 3, 4] (by decide) (by decide)]
    rw [bigSepL_cons_cons, bigSepL_cons_cons, bigSepL_cons_cons, bigSepL_cons_cons, bigSepL_singleton]
    rfl

/-! ## The slots of the staging buffer -/

/-- The slots' elements, and those outside every slot. -/
def slotOf : Fin 5 → Finset S5x1024x512.Idx := fun
  | 0 => sR0.set | 1 => sR1.set | 2 => sR2.set | 3 => sR3.set | 4 => sR4.set
def slotRest : Finset S5x1024x512.Idx := Finset.univ \ Finset.univ.biUnion slotOf
def slotAll : Fin 6 → Finset S5x1024x512.Idx := fun
  | 0 => sR0.set | 1 => sR1.set | 2 => sR2.set | 3 => sR3.set | 4 => sR4.set | 5 => slotRest

theorem slot_first (t : Fin 5) (i : S5x1024x512.Idx) (h : i ∈ slotOf t) : (i 0).val = t.val := by
  fin_cases t <;> (have h := (Rect.mem_set_unit.mp h) 0)
  · have h1 : (i 0).val < 0 + 1 := h.2
    show (i 0).val = 0; omega
  · have h1 : (i 0).val < 1 + 1 := h.2
    have h2 : 1 ≤ (i 0).val := h.1
    show (i 0).val = 1; omega
  · have h1 : (i 0).val < 2 + 1 := h.2
    have h2 : 2 ≤ (i 0).val := h.1
    show (i 0).val = 2; omega
  · have h1 : (i 0).val < 3 + 1 := h.2
    have h2 : 3 ≤ (i 0).val := h.1
    show (i 0).val = 3; omega
  · have h1 : (i 0).val < 4 + 1 := h.2
    have h2 : 4 ≤ (i 0).val := h.1
    show (i 0).val = 4; omega

theorem slotAll_lt (t : Fin 6) (h : t.val < 5) : slotAll t = slotOf ⟨t.val, h⟩ := by
  fin_cases t <;> first | rfl | exact absurd h (by decide)

theorem slot_disjoint (t t' : Fin 6) (hne : t ≠ t') : Disjoint (slotAll t) (slotAll t') := by
  have key : ∀ t : Fin 6, t.val < 5 → ∀ i, i ∈ slotAll t → i ∉ slotAll 5 := fun t h i hi h5 => by
    rw [slotAll_lt t h] at hi
    exact (Finset.mem_sdiff.mp h5).2 (Finset.mem_biUnion.mpr ⟨_, Finset.mem_univ _, hi⟩)
  rw [Finset.disjoint_left]; intro i h1 h2
  have ht := t.isLt; have ht' := t'.isLt
  by_cases h : t.val < 5
  · by_cases h' : t'.val < 5
    · rw [slotAll_lt t h] at h1; rw [slotAll_lt t' h'] at h2
      have e := (slot_first _ i h1).symm.trans (slot_first _ i h2)
      exact hne (Fin.ext e)
    · have e : t' = 5 := Fin.ext (by show t'.val = 5; omega)
      subst e; exact key t h i h1 h2
  · have e : t = 5 := Fin.ext (by show t.val = 5; omega)
    subst e
    by_cases h' : t'.val < 5
    · exact key t' h' i h2 h1
    · exact hne (Fin.ext (by show 5 = t'.val; omega))

theorem slot_cover (i : S5x1024x512.Idx) : ∃ t, i ∈ slotAll t := by
  by_cases h : i ∈ Finset.univ.biUnion slotOf
  · obtain ⟨t, -, ht⟩ := Finset.mem_biUnion.mp h
    refine ⟨⟨t.val, by have := t.isLt; omega⟩, ?_⟩
    rw [slotAll_lt _ t.isLt]; exact ht
  · exact ⟨5, Finset.mem_sdiff.mpr ⟨Finset.mem_univ _, h⟩⟩

/-- What lies outside the five slots. -/
def stRest (c : Dev nD) (f : Buf (Elt F) ((c : Thread nD τ).loc cc0_scratch8)) : sProp 𝕄 :=
  ((c : Thread nD τ).loc cc0_scratch8) ↦[slotRest]{fullShare} f

theorem slot_set0 : (sM0.view.set : Finset S5x1024x512.Idx) = sR0.set :=
  (View.set_reshape (v := (View.whole cc0_scratch8).slice sR0) _).trans (View.set_slice_whole cc0_scratch8 sR0)
theorem slot_set1 : (sM1.view.set : Finset S5x1024x512.Idx) = sR1.set :=
  (View.set_reshape (v := (View.whole cc0_scratch8).slice sR1) _).trans (View.set_slice_whole cc0_scratch8 sR1)
theorem slot_set2 : (sM2.view.set : Finset S5x1024x512.Idx) = sR2.set :=
  (View.set_reshape (v := (View.whole cc0_scratch8).slice sR2) _).trans (View.set_slice_whole cc0_scratch8 sR2)
theorem slot_set3 : (sM3.view.set : Finset S5x1024x512.Idx) = sR3.set :=
  (View.set_reshape (v := (View.whole cc0_scratch8).slice sR3) _).trans (View.set_slice_whole cc0_scratch8 sR3)
theorem slot_set4 : (sM4.view.set : Finset S5x1024x512.Idx) = sR4.set :=
  (View.set_reshape (v := (View.whole cc0_scratch8).slice sR4) _).trans (View.set_slice_whole cc0_scratch8 sR4)

/-- The staging buffer is its five slots and the rest. -/
theorem stage_split (c : Dev nD) (f : Buf (Elt F) ((c : Thread nD τ).loc cc0_scratch8)) :
    (((c : Thread nD τ).loc cc0_scratch8) ↦{fullShare} f : sProp 𝕄)
      ⊢ iprop(pts sM0 c fullShare f ∗ pts sM1 c fullShare f ∗ pts sM2 c fullShare f ∗ pts sM3 c fullShare f ∗ pts sM4 c fullShare f ∗ stRest c f) := by
  refine Entails.of_eq ?_
  refine (family_split (ℓ := (c : Thread nD τ).loc cc0_scratch8) slotAll fullShare f slot_cover slot_disjoint).trans ?_
  rw [bigSep_univ_eq_bigSepL [0, 1, 2, 3, 4, 5] (by decide) (by decide)]
  rw [bigSepL_cons_cons, bigSepL_cons_cons, bigSepL_cons_cons, bigSepL_cons_cons, bigSepL_cons_cons, bigSepL_singleton]
  unfold pts
  rw [slot_set0, slot_set1, slot_set2, slot_set3, slot_set4]
  rfl

/-- The slots and the rest, each at contents of its own, are the staging buffer at some contents. -/
theorem stage_join (c : Dev nD) :
    (iprop((∃ f, pts sM0 c fullShare f) ∗ (∃ f, pts sM1 c fullShare f) ∗ (∃ f, pts sM2 c fullShare f) ∗ (∃ f, pts sM3 c fullShare f)
      ∗ (∃ f, pts sM4 c fullShare f) ∗ ∃ f, stRest c f) : sProp 𝕄)
      ⊢ iprop(∃ f : Buf (Elt F) ((c : Thread nD τ).loc cc0_scratch8), ((c : Thread nD τ).loc cc0_scratch8) ↦{fullShare} f) := by
  iintro ⟨⟨%f0, H0⟩, ⟨%f1, H1⟩, ⟨%f2, H2⟩, ⟨%f3, H3⟩, ⟨%f4, H4⟩, ⟨%f5, H5⟩⟩
  let fs : Fin 6 → Buf (Elt F) ((c : Thread nD τ).loc cc0_scratch8) := fun | 0 => f0 | 1 => f1 | 2 => f2 | 3 => f3 | 4 => f4 | 5 => f5
  have e : iprop(pts sM0 c fullShare f0 ∗ pts sM1 c fullShare f1 ∗ pts sM2 c fullShare f2 ∗ pts sM3 c fullShare f3 ∗ pts sM4 c fullShare f4 ∗ stRest c f5)
      = (bigSep Finset.univ (fun t => ((c : Thread nD τ).loc cc0_scratch8) ↦[slotAll t]{fullShare} fs t) : sProp 𝕄) := by
    rw [bigSep_univ_eq_bigSepL [0, 1, 2, 3, 4, 5] (by decide) (by decide)]
    rw [bigSepL_cons_cons, bigSepL_cons_cons, bigSepL_cons_cons, bigSepL_cons_cons, bigSepL_cons_cons, bigSepL_singleton]
    unfold pts
    rw [slot_set0, slot_set1, slot_set2, slot_set3, slot_set4]
    rfl
  iapply ((Entails.of_eq e).trans (family_join (ℓ := (c : Thread nD τ).loc cc0_scratch8) slotAll fullShare fs f0 slot_cover slot_disjoint))
  isplitl [H0]; · iexact H0
  isplitl [H1]; · iexact H1
  isplitl [H2]; · iexact H2
  isplitl [H3]; · iexact H3
  isplitl [H4]; · iexact H4
  iexact H5

end Cert.Gather
-- ==== Proof.Contents.lean ====
/-
# What the copies and the stores leave

Each copy and each store of the run writes a window with values already named in the plan; here each such
window is rewritten to its name, so that the window can be handed on as the plan says.
-/
module

public import proofs.«01_k».proof.Proof.Windows
public import Idealize.ShloMosaic.Lib.Pipeline.Value

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A window written whole holds what was written. -/
theorem pts_written {sp : Space} {s : Shape} {e : EltTy} (M : Memref sig .tc sp s e) (c : Dev nD) (q : PosShare TreeShare)
    {f g : Buf (Elt F) (M.view.loc (c : Thread nD τ))} {w : s.Idx → Elt F e}
    (h : ∀ x, cast (congrArg (Elt F) M.view.elt_eq.symm) (w x) = g (M.view.emb x)) :
    pts M c q (M.view.write (Elt F) f w Finset.univ) = pts M c q g :=
  pts_congr M c q fun x => (View.write_emb_of_mem f w (Finset.mem_univ x)).trans (h x)

/-! ## The copies in -/

theorem in_top (c : Dev nD) (fd : Buf (Elt F) (xfT.view.loc (c : Thread nD τ))) :
    iprop(pts xfT c fullShare (xfT.view.write (Elt F) fd (aT.view.read (Elt F) (xC m c)) Finset.univ) ∗ pts aT c fullShare (xC m c))
      ⊢ pay m c (dq 19 (by decide)) := by
  rw [pts_written xfT c fullShare (f := fd) (g := xC m c) (w := aT.view.read (Elt F) (xC m c)) fun x => rfl]
  exact Entails.of_eq rfl
theorem in_bot (c : Dev nD) (fd : Buf (Elt F) (xfB.view.loc (c : Thread nD τ))) :
    iprop(pts xfB c fullShare (xfB.view.write (Elt F) fd (aB.view.read (Elt F) (xC m c)) Finset.univ) ∗ pts aB c fullShare (xC m c))
      ⊢ pay m c (dq 20 (by decide)) := by
  rw [pts_written xfB c fullShare (f := fd) (g := xC m c) (w := aB.view.read (Elt F) (xC m c)) fun x => rfl]
  exact Entails.of_eq rfl
theorem in_w (c : Dev nD) (fd : Buf (Elt F) (wfM.view.loc (c : Thread nD τ))) :
    iprop(pts wfM c fullShare (wfM.view.write (Elt F) fd (bM.view.read (Elt F) (wC m c)) Finset.univ) ∗ pts bM c fullShare (wC m c))
      ⊢ pay m c (dq 21 (by decide)) := by
  rw [pts_written wfM c fullShare (f := fd) (g := wC m c) (w := bM.view.read (Elt F) (wC m c)) fun x => rfl]
  exact Entails.of_eq rfl

/-! ## The rounded rows and columns -/

theorem round_top (c : Dev nD) (f : Buf (Elt F) (xqT.view.loc (c : Thread nD τ))) :
    pts xqT c fullShare ((xqM.access topR).write (Elt F) f (k0_pay1 (xfM.view.readAt (Elt F) topR.toLoadRect (xC m c))) Finset.univ)
      = pts xqT c fullShare (xqC m c) :=
  pts_written xqT c fullShare fun x => by
    unfold k0_pay1; rw [shapeCast_self]; rfl
theorem round_bot (c : Dev nD) (f : Buf (Elt F) (xqB.view.loc (c : Thread nD τ))) :
    pts xqB c fullShare ((xqM.access botR).write (Elt F) f (k0_pay2 (xfM.view.readAt (Elt F) botR.toLoadRect (xC m c))) Finset.univ)
      = pts xqB c fullShare (xqC m c) :=
  pts_written xqB c fullShare fun x => by
    unfold k0_pay2; rw [shapeCast_self]; rfl

theorem zeros2 : (![0, 0] : Fin 2 → ℕ) = fun _ => 0 := by funext a; fin_cases a <;> rfl
/-- The rectangle of a whole buffer of columns, and of a whole buffer of rows. -/
abbrev wR : Rect S4096x512 := Rect.unit (s := S4096x512) ![0, 0] S4096x512.size inb_S4096x512_S4096x512_0_0
abbrev xR : Rect S1024x4096 := Rect.unit (s := S1024x4096) ![0, 0] S1024x4096.size inb_S1024x4096_S1024x4096_0_0
abbrev hR : Rect S512x4096 := Rect.unit (s := S512x4096) ![0, 0] S512x4096.size inb_S512x4096_S512x4096_0_0

theorem round_w (c : Dev nD) (f : Buf (Elt F) (wqM.view.loc (c : Thread nD τ))) :
    pts wqM c fullShare ((wqM.access wR).write (Elt F) f (k0_pay3 (wfM.view.readAt (Elt F) wR.toLoadRect (wC m c))) Finset.univ)
      = pts wqM c fullShare (wqC m c) := by
  congr 1
  refine (Memref.write_access_unit_zero_univ (Elt F) cc0_scratch3 zeros2 _ f _).trans ?_
  refine (congrArg k0_pay3 (Memref.readAt_unit_zero (Elt F) cc0_scratch1 zeros2 _ _)).trans ?_
  exact shapeCast_self _ _

/-! ## Loads of whole buffers -/

theorem whole_xq (c : Dev nD) (f : Vec F S1024x4096 .fp8e5m2) : xqM.view.readAt (Elt F) xR.toLoadRect f = f :=
  Memref.readAt_unit_zero (Elt F) cc0_scratch2 zeros2 _ _
theorem whole_wq (c : Dev nD) (f : Vec F S4096x512 .fp8e5m2) : wqM.view.readAt (Elt F) wR.toLoadRect f = f :=
  Memref.readAt_unit_zero (Elt F) cc0_scratch3 zeros2 _ _
theorem whole_rl (c : Dev nD) (f : Vec F S1024x4096 .fp8e5m2) : rlM.view.readAt (Elt F) xR.toLoadRect f = f :=
  Memref.readAt_unit_zero (Elt F) cc0_scratch4 zeros2 _ _
theorem whole_rr (c : Dev nD) (f : Vec F S1024x4096 .fp8e5m2) : rrM.view.readAt (Elt F) xR.toLoadRect f = f :=
  Memref.readAt_unit_zero (Elt F) cc0_scratch5 zeros2 _ _
theorem whole_hl (c : Dev nD) (f : Vec F S512x4096 .fp8e5m2) : hlM.view.readAt (Elt F) hR.toLoadRect f = f :=
  Memref.readAt_unit_zero (Elt F) cc0_scratch6 zeros2 _ _
theorem whole_hr (c : Dev nD) (f : Vec F S512x4096 .fp8e5m2) : hrM.view.readAt (Elt F) hR.toLoadRect f = f :=
  Memref.readAt_unit_zero (Elt F) cc0_scratch7 zeros2 _ _

/-! ## The remote copies -/

/-- `recv 0`: the upper half of a device's rows, at the next device. -/
theorem recv0_pay (c : Dev nD) (fd : Buf (Elt F) (rlT.view.loc (nxt c : Thread nD τ))) :
    pts rlT (nxt c) fullShare (rlT.view.write (Elt F) fd (xqT.view.read (Elt F) (xqC m c)) Finset.univ) ⊢ pay m (nxt c) (dq 8 (by decide)) := by
  refine (Entails.of_eq (pts_written rlT (nxt c) fullShare (f := fd) (g := xqC m c) (w := xqT.view.read (Elt F) (xqC m c)) fun x => rfl)).trans ?_
  show _ ⊢ pts rlT (nxt c) fullShare (xqC m (prv (nxt c)))
  rw [prv_nxt]
/-- `recv 1`: the lower half, at the next device. -/
theorem recv1_pay (c : Dev nD) (fd : Buf (Elt F) (rlB.view.loc (nxt c : Thread nD τ))) :
    pts rlB (nxt c) fullShare (rlB.view.write (Elt F) fd (xqB.view.read (Elt F) (xqC m c)) Finset.univ) ⊢ pay m (nxt c) (dq 9 (by decide)) := by
  refine (Entails.of_eq (pts_written rlB (nxt c) fullShare (f := fd) (g := xqC m c) (w := xqB.view.read (Elt F) (xqC m c)) fun x => rfl)).trans ?_
  show _ ⊢ pts rlB (nxt c) fullShare (xqC m (prv (nxt c)))
  rw [prv_nxt]
/-- `recv 2`: the lower half, at the previous device. -/
theorem recv2_pay (c : Dev nD) (fd : Buf (Elt F) (rrB.view.loc (prv c : Thread nD τ))) :
    pts rrB (prv c) fullShare (rrB.view.write (Elt F) fd (xqB.view.read (Elt F) (xqC m c)) Finset.univ) ⊢ pay m (prv c) (dq 10 (by decide)) := by
  refine (Entails.of_eq (pts_written rrB (prv c) fullShare (f := fd) (g := xqC m c) (w := xqB.view.read (Elt F) (xqC m c)) fun x => rfl)).trans ?_
  show _ ⊢ pts rrB (prv c) fullShare (xqC m (nxt (prv c)))
  rw [nxt_prv]
/-- `recv 3`: the upper half, at the previous device. -/
theorem recv3_pay (c : Dev nD) (fd : Buf (Elt F) (rrT.view.loc (prv c : Thread nD τ))) :
    pts rrT (prv c) fullShare (rrT.view.write (Elt F) fd (xqT.view.read (Elt F) (xqC m c)) Finset.univ) ⊢ pay m (prv c) (dq 11 (by decide)) := by
  refine (Entails.of_eq (pts_written rrT (prv c) fullShare (f := fd) (g := xqC m c) (w := xqT.view.read (Elt F) (xqC m c)) fun x => rfl)).trans ?_
  show _ ⊢ pts rrT (prv c) fullShare (xqC m (nxt (prv c)))
  rw [nxt_prv]
/-- `recv 4`: the upper half received from the previous device, sent on to the next one. -/
theorem recv4_pay (c : Dev nD) (fd : Buf (Elt F) (hlM.view.loc (nxt c : Thread nD τ))) :
    pts hlM (nxt c) fullShare (hlM.view.write (Elt F) fd (rlT.view.read (Elt F) (xqC m (prv c))) Finset.univ) ⊢ pay m (nxt c) (dq 12 (by decide)) := by
  refine (Entails.of_eq (pts_written hlM (nxt c) fullShare (f := fd) (g := topOf (xqC m (prv c))) (w := rlT.view.read (Elt F) (xqC m (prv c))) fun x => rfl)).trans ?_
  show _ ⊢ pts hlM (nxt c) fullShare (topOf (xqC m (opp (nxt c))))
  rw [← prv_prv, prv_nxt]
/-- `recv 5`: the lower half received from the next device, sent on to the previous one. -/
theorem recv5_pay (c : Dev nD) (fd : Buf (Elt F) (hrM.view.loc (prv c : Thread nD τ))) :
    pts hrM (prv c) fullShare (hrM.view.write (Elt F) fd (rrB.view.read (Elt F) (xqC m (nxt c))) Finset.univ) ⊢ pay m (prv c) (dq 13 (by decide)) := by
  refine (Entails.of_eq (pts_written hrM (prv c) fullShare (f := fd) (g := botOf (xqC m (nxt c))) (w := rrB.view.read (Elt F) (xqC m (nxt c))) fun x => rfl)).trans ?_
  show _ ⊢ pts hrM (prv c) fullShare (botOf (xqC m (opp (prv c))))
  rw [← nxt_nxt, nxt_prv]

/-! ## The copies out -/

theorem out_row0 (c : Dev nD) (x : S1024x512.Idx) : p0 m c (Fin.cons (⟨0, Nat.one_pos⟩ : Fin 1) x) = outC m c ((oW0 c).view.emb x) := by
  have hd := dev_cases c
  have hx : (x 0).val < 1024 := (x 0).isLt
  have h0 : (((oW0 c).view.emb x) 0).val = 1024 * c.val + (x 0).val := by
    show k0_off1 c 0 + 1 * (x 0).val = _
    rw [off1_0, Nat.one_mul]
  have h1 : (((oW0 c).view.emb x) 1).val = (x 1).val := by
    show k0_off1 c 1 + 1 * (x 1).val = _
    rw [off1_1, Nat.one_mul, Nat.zero_add]
  unfold outC
  rw [if_pos (by omega)]
  refine congrArg (p0 m c) (funext fun a => ?_)
  fin_cases a
  · rfl
  · exact Fin.ext (show (x 0).val = (((oW0 c).view.emb x) 0).val % 1024 by omega)
  · exact Fin.ext h1.symm

theorem out_row1 (c : Dev nD) (x : S1024x512.Idx) : p1 m c (Fin.cons (⟨0, Nat.one_pos⟩ : Fin 1) x) = outC m c ((oW1 c).view.emb x) := by
  have hd := dev_cases c
  have hx : (x 0).val < 1024 := (x 0).isLt
  have h0 : (((oW1 c).view.emb x) 0).val = 1024 * (prv c).val + (x 0).val := by
    show k0_off2 c 3#32 0 + 1 * (x 0).val = _
    rw [off21_0, Nat.one_mul]
  have h1 : (((oW1 c).view.emb x) 1).val = (x 1).val := by
    show k0_off2 c 3#32 1 + 1 * (x 1).val = _
    rw [off21_1, Nat.one_mul, Nat.zero_add]
  unfold outC
  rw [if_neg (by omega), if_pos (by omega)]
  refine congrArg (p1 m c) (funext fun a => ?_)
  fin_cases a
  · rfl
  · exact Fin.ext (show (x 0).val = (((oW1 c).view.emb x) 0).val % 1024 by omega)
  · exact Fin.ext h1.symm

theorem out_row2 (c : Dev nD) (x : S1024x512.Idx) : p2 m c (Fin.cons (⟨0, Nat.one_pos⟩ : Fin 1) x) = outC m c ((oW2 c).view.emb x) := by
  have hd := dev_cases c
  have hx : (x 0).val < 1024 := (x 0).isLt
  have h0 : (((oW2 c).view.emb x) 0).val = 1024 * (nxt c).val + (x 0).val := by
    show k0_off2 c 1#32 0 + 1 * (x 0).val = _
    rw [off20_0, Nat.one_mul]
  have h1 : (((oW2 c).view.emb x) 1).val = (x 1).val := by
    show k0_off2 c 1#32 1 + 1 * (x 1).val = _
    rw [off20_1, Nat.one_mul, Nat.zero_add]
  unfold outC
  rw [if_neg (by omega), if_neg (by omega), if_pos (by omega)]
  refine congrArg (p2 m c) (funext fun a => ?_)
  fin_cases a
  · rfl
  · exact Fin.ext (show (x 0).val = (((oW2 c).view.emb x) 0).val % 1024 by omega)
  · exact Fin.ext h1.symm

theorem out_row3 (c : Dev nD) (x : S512x512.Idx) : p3 m c (Fin.cons (⟨0, Nat.one_pos⟩ : Fin 1) x) = outC m c ((oW3 c).view.emb x) := by
  have hd := dev_cases c
  have hx : (x 0).val < 512 := (x 0).isLt
  have h0 : (((oW3 c).view.emb x) 0).val = 1024 * (opp c).val + (x 0).val := by
    show k0_off3 c 0 + 1 * (x 0).val = _
    rw [off3_0, Nat.one_mul]
  have h1 : (((oW3 c).view.emb x) 1).val = (x 1).val := by
    show k0_off3 c 1 + 1 * (x 1).val = _
    rw [off3_1, Nat.one_mul, Nat.zero_add]
  unfold outC
  rw [if_neg (by omega), if_neg (by omega), if_neg (by omega), if_pos (by omega)]
  refine congrArg (p3 m c) (funext fun a => ?_)
  fin_cases a
  · rfl
  · exact Fin.ext (show (x 0).val = (((oW3 c).view.emb x) 0).val % 512 by omega)
  · exact Fin.ext h1.symm

theorem out_row4 (c : Dev nD) (x : S512x512.Idx) : p4 m c (Fin.cons (⟨0, Nat.one_pos⟩ : Fin 1) x) = outC m c ((oW4 c).view.emb x) := by
  have hd := dev_cases c
  have hx : (x 0).val < 512 := (x 0).isLt
  have h0 : (((oW4 c).view.emb x) 0).val = 1024 * (opp c).val + 512 + (x 0).val := by
    show k0_off4 c 0 + 1 * (x 0).val = _
    rw [off4_0, Nat.one_mul]
  have h1 : (((oW4 c).view.emb x) 1).val = (x 1).val := by
    show k0_off4 c 1 + 1 * (x 1).val = _
    rw [off4_1, Nat.one_mul, Nat.zero_add]
  unfold outC
  rw [if_neg (by omega), if_neg (by omega), if_neg (by omega), if_neg (by omega)]
  refine congrArg (p4 m c) (funext fun a => ?_)
  fin_cases a
  · rfl
  · exact Fin.ext (show (x 0).val = (((oW4 c).view.emb x) 0).val % 512 by omega)
  · exact Fin.ext h1.symm

theorem out_pay0 (c : Dev nD) (fd : Buf (Elt F) ((oW0 c).view.loc (c : Thread nD τ))) (f : Buf (Elt F) (stM.view.loc (c : Thread nD τ))) :
    iprop(pts (oW0 c) c fullShare ((oW0 c).view.write (Elt F) fd (sM0.view.read (Elt F) ((stM.access sR0).write (Elt F) f (p0 m c) Finset.univ)) Finset.univ)
      ∗ pts sM0 c fullShare ((stM.access sR0).write (Elt F) f (p0 m c) Finset.univ)) ⊢ pay m c (dq 14 (by decide)) := by
  have e : ∀ x : S1024x512.Idx, sM0.view.read (Elt F) ((stM.access sR0).write (Elt F) f (p0 m c) Finset.univ) x = outC m c ((oW0 c).view.emb x) := fun x => by
    refine (View.write_emb_of_mem (v := stM.access sR0) f (p0 m c) (Finset.mem_univ (Shape.reshapeEquiv (squeezes_S1x1024x512_S1024x512).numel_eq x))).trans ?_
    refine (congrArg (p0 m c) (Shape.reshapeEquiv_cons_one _ x)).trans (out_row0 m c x)
  rw [pts_written (oW0 c) c fullShare (g := outC m c) (f := fd) (w := sM0.view.read (Elt F) ((stM.access sR0).write (Elt F) f (p0 m c) Finset.univ)) e]
  show iprop(_ ∗ _) ⊢ iprop(pts (oW0 c) c fullShare (outC m c) ∗ ∃ f, pts sM0 c fullShare f)
  iintro ⟨H, Hs⟩
  isplitl [H]; · iexact H
  iexists _; iexact Hs
/-- The slot, as a store addresses it and as the copy out reads it. -/
theorem slot_view0 (c : Dev nD) (f : Buf (Elt F) (stM.view.loc (c : Thread nD τ))) :
    pts (stM.slice sR0 (fun _ => rfl)) c fullShare f = pts sM0 c fullShare f := by
  unfold pts; rw [slot_set0]; exact congrArg (fun K => (_ ↦[K]{fullShare} f)) (View.set_slice_whole cc0_scratch8 sR0)

theorem out_pay1 (c : Dev nD) (fd : Buf (Elt F) ((oW1 c).view.loc (c : Thread nD τ))) (f : Buf (Elt F) (stM.view.loc (c : Thread nD τ))) :
    iprop(pts (oW1 c) c fullShare ((oW1 c).view.write (Elt F) fd (sM1.view.read (Elt F) ((stM.access sR1).write (Elt F) f (p1 m c) Finset.univ)) Finset.univ)
      ∗ pts sM1 c fullShare ((stM.access sR1).write (Elt F) f (p1 m c) Finset.univ)) ⊢ pay m c (dq 15 (by decide)) := by
  have e : ∀ x : S1024x512.Idx, sM1.view.read (Elt F) ((stM.access sR1).write (Elt F) f (p1 m c) Finset.univ) x = outC m c ((oW1 c).view.emb x) := fun x => by
    refine (View.write_emb_of_mem (v := stM.access sR1) f (p1 m c) (Finset.mem_univ (Shape.reshapeEquiv (squeezes_S1x1024x512_S1024x512).numel_eq x))).trans ?_
    refine (congrArg (p1 m c) (Shape.reshapeEquiv_cons_one _ x)).trans (out_row1 m c x)
  rw [pts_written (oW1 c) c fullShare (g := outC m c) (f := fd) (w := sM1.view.read (Elt F) ((stM.access sR1).write (Elt F) f (p1 m c) Finset.univ)) e]
  show iprop(_ ∗ _) ⊢ iprop(pts (oW1 c) c fullShare (outC m c) ∗ ∃ f, pts sM1 c fullShare f)
  iintro ⟨H, Hs⟩
  isplitl [H]; · iexact H
  iexists _; iexact Hs
/-- The slot, as a store addresses it and as the copy out reads it. -/
theorem slot_view1 (c : Dev nD) (f : Buf (Elt F) (stM.view.loc (c : Thread nD τ))) :
    pts (stM.slice sR1 (fun _ => rfl)) c fullShare f = pts sM1 c fullShare f := by
  unfold pts; rw [slot_set1]; exact congrArg (fun K => (_ ↦[K]{fullShare} f)) (View.set_slice_whole cc0_scratch8 sR1)

theorem out_pay2 (c : Dev nD) (fd : Buf (Elt F) ((oW2 c).view.loc (c : Thread nD τ))) (f : Buf (Elt F) (stM.view.loc (c : Thread nD τ))) :
    iprop(pts (oW2 c) c fullShare ((oW2 c).view.write (Elt F) fd (sM2.view.read (Elt F) ((stM.access sR2).write (Elt F) f (p2 m c) Finset.univ)) Finset.univ)
      ∗ pts sM2 c fullShare ((stM.access sR2).write (Elt F) f (p2 m c) Finset.univ)) ⊢ pay m c (dq 16 (by decide)) := by
  have e : ∀ x : S1024x512.Idx, sM2.view.read (Elt F) ((stM.access sR2).write (Elt F) f (p2 m c) Finset.univ) x = outC m c ((oW2 c).view.emb x) := fun x => by
    refine (View.write_emb_of_mem (v := stM.access sR2) f (p2 m c) (Finset.mem_univ (Shape.reshapeEquiv (squeezes_S1x1024x512_S1024x512).numel_eq x))).trans ?_
    refine (congrArg (p2 m c) (Shape.reshapeEquiv_cons_one _ x)).trans (out_row2 m c x)
  rw [pts_written (oW2 c) c fullShare (g := outC m c) (f := fd) (w := sM2.view.read (Elt F) ((stM.access sR2).write (Elt F) f (p2 m c) Finset.univ)) e]
  show iprop(_ ∗ _) ⊢ iprop(pts (oW2 c) c fullShare (outC m c) ∗ ∃ f, pts sM2 c fullShare f)
  iintro ⟨H, Hs⟩
  isplitl [H]; · iexact H
  iexists _; iexact Hs
/-- The slot, as a store addresses it and as the copy out reads it. -/
theorem slot_view2 (c : Dev nD) (f : Buf (Elt F) (stM.view.loc (c : Thread nD τ))) :
    pts (stM.slice sR2 (fun _ => rfl)) c fullShare f = pts sM2 c fullShare f := by
  unfold pts; rw [slot_set2]; exact congrArg (fun K => (_ ↦[K]{fullShare} f)) (View.set_slice_whole cc0_scratch8 sR2)

theorem out_pay3 (c : Dev nD) (fd : Buf (Elt F) ((oW3 c).view.loc (c : Thread nD τ))) (f : Buf (Elt F) (stM.view.loc (c : Thread nD τ))) :
    iprop(pts (oW3 c) c fullShare ((oW3 c).view.write (Elt F) fd (sM3.view.read (Elt F) ((stM.access sR3).write (Elt F) f (p3 m c) Finset.univ)) Finset.univ)
      ∗ pts sM3 c fullShare ((stM.access sR3).write (Elt F) f (p3 m c) Finset.univ)) ⊢ pay m c (dq 17 (by decide)) := by
  have e : ∀ x : S512x512.Idx, sM3.view.read (Elt F) ((stM.access sR3).write (Elt F) f (p3 m c) Finset.univ) x = outC m c ((oW3 c).view.emb x) := fun x => by
    refine (View.write_emb_of_mem (v := stM.access sR3) f (p3 m c) (Finset.mem_univ (Shape.reshapeEquiv (squeezes_S1x512x512_S512x512).numel_eq x))).trans ?_
    refine (congrArg (p3 m c) (Shape.reshapeEquiv_cons_one _ x)).trans (out_row3 m c x)
  rw [pts_written (oW3 c) c fullShare (g := outC m c) (f := fd) (w := sM3.view.read (Elt F) ((stM.access sR3).write (Elt F) f (p3 m c) Finset.univ)) e]
  show iprop(_ ∗ _) ⊢ iprop(pts (oW3 c) c fullShare (outC m c) ∗ ∃ f, pts sM3 c fullShare f)
  iintro ⟨H, Hs⟩
  isplitl [H]; · iexact H
  iexists _; iexact Hs
/-- The slot, as a store addresses it and as the copy out reads it. -/
theorem slot_view3 (c : Dev nD) (f : Buf (Elt F) (stM.view.loc (c : Thread nD τ))) :
    pts (stM.slice sR3 (fun _ => rfl)) c fullShare f = pts sM3 c fullShare f := by
  unfold pts; rw [slot_set3]; exact congrArg (fun K => (_ ↦[K]{fullShare} f)) (View.set_slice_whole cc0_scratch8 sR3)

theorem out_pay4 (c : Dev nD) (fd : Buf (Elt F) ((oW4 c).view.loc (c : Thread nD τ))) (f : Buf (Elt F) (stM.view.loc (c : Thread nD τ))) :
    iprop(pts (oW4 c) c fullShare ((oW4 c).view.write (Elt F) fd (sM4.view.read (Elt F) ((stM.access sR4).write (Elt F) f (p4 m c) Finset.univ)) Finset.univ)
      ∗ pts sM4 c fullShare ((stM.access sR4).write (Elt F) f (p4 m c) Finset.univ)) ⊢ pay m c (dq 18 (by decide)) := by
  have e : ∀ x : S512x512.Idx, sM4.view.read (Elt F) ((stM.access sR4).write (Elt F) f (p4 m c) Finset.univ) x = outC m c ((oW4 c).view.emb x) := fun x => by
    refine (View.write_emb_of_mem (v := stM.access sR4) f (p4 m c) (Finset.mem_univ (Shape.reshapeEquiv (squeezes_S1x512x512_S512x512).numel_eq x))).trans ?_
    refine (congrArg (p4 m c) (Shape.reshapeEquiv_cons_one _ x)).trans (out_row4 m c x)
  rw [pts_written (oW4 c) c fullShare (g := outC m c) (f := fd) (w := sM4.view.read (Elt F) ((stM.access sR4).write (Elt F) f (p4 m c) Finset.univ)) e]
  show iprop(_ ∗ _) ⊢ iprop(pts (oW4 c) c fullShare (outC m c) ∗ ∃ f, pts sM4 c fullShare f)
  iintro ⟨H, Hs⟩
  isplitl [H]; · iexact H
  iexists _; iexact Hs
/-- The slot, as a store addresses it and as the copy out reads it. -/
theorem slot_view4 (c : Dev nD) (f : Buf (Elt F) (stM.view.loc (c : Thread nD τ))) :
    pts (stM.slice sR4 (fun _ => rfl)) c fullShare f = pts sM4 c fullShare f := by
  unfold pts; rw [slot_set4]; exact congrArg (fun K => (_ ↦[K]{fullShare} f)) (View.set_slice_whole cc0_scratch8 sR4)

/-! ## The blocks as stored -/

theorem stored0 (c : Dev nD) (f : Buf (Elt F) (stM.view.loc (c : Thread nD τ))) :
    pts (stM.slice sR0 (fun _ => rfl)) c fullShare ((stM.access sR0).write (Elt F) f
      (k0_pay5 (sa m c) (sb m c) (xqM.view.readAt (Elt F) xR.toLoadRect (xqC m c)) (wqM.view.readAt (Elt F) wR.toLoadRect (wqC m c))) Finset.univ)
      = pts sM0 c fullShare ((stM.access sR0).write (Elt F) f (p0 m c) Finset.univ) := by
  rw [slot_view0, whole_xq c, whole_wq c]; rfl

theorem stored1 (c : Dev nD) (f : Buf (Elt F) (stM.view.loc (c : Thread nD τ))) :
    pts (stM.slice sR1 (fun _ => rfl)) c fullShare ((stM.access sR1).write (Elt F) f
      (k0_pay6 (k0_pay4 (sa m c) (sb m c)) (rlM.view.readAt (Elt F) xR.toLoadRect (xqC m (prv c))) (wqM.view.readAt (Elt F) wR.toLoadRect (wqC m c))) Finset.univ)
      = pts sM1 c fullShare ((stM.access sR1).write (Elt F) f (p1 m c) Finset.univ) := by
  rw [slot_view1, whole_rl c, whole_wq c]; rfl

theorem stored2 (c : Dev nD) (f : Buf (Elt F) (stM.view.loc (c : Thread nD τ))) :
    pts (stM.slice sR2 (fun _ => rfl)) c fullShare ((stM.access sR2).write (Elt F) f
      (k0_pay7 (k0_pay4 (sa m c) (sb m c)) (rrM.view.readAt (Elt F) xR.toLoadRect (xqC m (nxt c))) (wqM.view.readAt (Elt F) wR.toLoadRect (wqC m c))) Finset.univ)
      = pts sM2 c fullShare ((stM.access sR2).write (Elt F) f (p2 m c) Finset.univ) := by
  rw [slot_view2, whole_rr c, whole_wq c]; rfl

theorem stored3 (c : Dev nD) (f : Buf (Elt F) (stM.view.loc (c : Thread nD τ))) :
    pts (stM.slice sR3 (fun _ => rfl)) c fullShare ((stM.access sR3).write (Elt F) f
      (k0_pay8 (k0_pay4 (sa m c) (sb m c)) (hlM.view.readAt (Elt F) hR.toLoadRect (topOf (xqC m (opp c)))) (wqM.view.readAt (Elt F) wR.toLoadRect (wqC m c))) Finset.univ)
      = pts sM3 c fullShare ((stM.access sR3).write (Elt F) f (p3 m c) Finset.univ) := by
  rw [slot_view3, whole_hl c, whole_wq c]; rfl

theorem stored4 (c : Dev nD) (f : Buf (Elt F) (stM.view.loc (c : Thread nD τ))) :
    pts (stM.slice sR4 (fun _ => rfl)) c fullShare ((stM.access sR4).write (Elt F) f
      (k0_pay9 (k0_pay4 (sa m c) (sb m c)) (hrM.view.readAt (Elt F) hR.toLoadRect (botOf (xqC m (opp c)))) (wqM.view.readAt (Elt F) wR.toLoadRect (wqC m c))) Finset.univ)
      = pts sM4 c fullShare ((stM.access sR4).write (Elt F) f (p4 m c) Finset.univ) := by
  rw [slot_view4, whole_hr c, whole_wq c]; rfl

/-! ## The scales -/

abbrev oneR : Rect S1 := Rect.unit (s := S1) ![0] S1.size inb_S1_S1_0
theorem idx1 (i : S1.Idx) : i = i0 := by
  funext a; fin_cases a
  exact Fin.ext (Nat.lt_one_iff.mp (i 0).isLt)
theorem scale_a (c : Dev nD) (x : oneR.shape.Idx) : scM.view.readAt (Elt F) oneR.toLoadRect (saC m c) x = sa m c :=
  congrArg (saC m c) (idx1 _)
theorem scale_b (c : Dev nD) (x : oneR.shape.Idx) : tcM.view.readAt (Elt F) oneR.toLoadRect (sbC m c) x = sb m c :=
  congrArg (sbC m c) (idx1 _)

end Cert.Gather
-- ==== Proof.Parts.lean ====
/-
# The exchange, part by part (first half)

What each of the program's first five parts does on a device `c`: from what it starts, and what it leaves.
-/
module

public import proofs.«01_k».proof.Proof.Contents

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

/-- What the two barrier units of a device hand over: its own buffers. -/
theorem bar_here : iprop((∃ f, pts rlM c fullShare f) ∗ ∃ f, pts hlM c fullShare f) = (payAt m (prv c) (.reg barS) true : sProp 𝕄) := by
  show _ = iprop((∃ f, pts rlM (nxt (prv c)) fullShare f) ∗ ∃ f, pts hlM (nxt (prv c)) fullShare f)
  rw [nxt_prv]
theorem bar_there : iprop((∃ f, pts rrM c fullShare f) ∗ ∃ f, pts hrM c fullShare f) = (payAt m (nxt c) (.reg barS) false : sProp 𝕄) := by
  show _ = iprop((∃ f, pts rrM (prv (nxt c)) fullShare f) ∗ ∃ f, pts hrM (prv (nxt c)) fullShare f)
  rw [prv_nxt]

/-- The three copies in are started, the neighbours told that the buffers here are free, and theirs waited for. -/
theorem part1 (Q : (Σ' (_ : Dev nD) (_ : BitVec 32) (_ : BitVec 32), BitVec 32) → sProp (MT nD τ sig Unit (Elt F) ℕ UU ℕ)) :
    iprop(Recs m
      ∗ levAts L lv
      ∗ Owe c (O0 c)
      ∗ (pts aT c fullShare (xC m c) ∗ (∃ f, pts xfT c fullShare f) ∗ Tok c 19)
      ∗ (pts aB c fullShare (xC m c) ∗ (∃ f, pts xfB c fullShare f) ∗ Tok c 20)
      ∗ (pts bM c fullShare (wC m c) ∗ (∃ f, pts wfM c fullShare f) ∗ Tok c 21)
      ∗ ((∃ f, pts rlM c fullShare f) ∗ (∃ f, pts hlM c fullShare f) ∗ dutyTok ER (barCell (prv c)) 0 true)
      ∗ ((∃ f, pts rrM c fullShare f) ∗ (∃ f, pts hrM c fullShare f) ∗ dutyTok ER (barCell (nxt c)) 0 false)
      ∗ cred (tallyAt (barCell c) () 2)
      ∗ atPos ER (barCell c) 0 ∅ 0)
      ⊢ iprop((∀ (v2 : BitVec 32) (v4 : BitVec 32) (v6 : BitVec 32), (Owe c (O2 c) ∗ Cred c 19 ∗ Cred c 20 ∗ Cred c 21 ∗ semVal (barCell c) 0 ∗ barF c ∗ barT c) -∗ Q ⟨c, v2, v4, v6⟩)
        -∗ WP c (k0_part1 aM (Memref.isWhole_whole _) bM (Memref.isWhole_whole _) scM (Memref.isWhole_whole _) tcM (Memref.isWhole_whole _) oM (Memref.isWhole_whole _) xfM (Memref.isWhole_whole _) wfM (Memref.isWhole_whole _) xqM (Memref.isWhole_whole _) wqM (Memref.isWhole_whole _) rlM (Memref.isWhole_whole _) rrM (Memref.isWhole_whole _) hlM (Memref.isWhole_whole _) hrM (Memref.isWhole_whole _) stM (Memref.isWhole_whole _) cc0_scratch9 cc0_scratch10 cc0_scratch11 cc0_scratch12) Q) := by
  rw [k0_part1_eq_skeleton]; unfold k0_part1_skel
  simp only [semSignalWord, semWaitWord, Prog.lift, Prog.bind_op, Prog.bind_ret, Prog.pure_eq_ret, Prog.bind_assoc, wp_deviceId]
  iintro ⟨#HR, #HL, HO, ⟨Ha, ⟨%f1, Hx⟩, Ht19⟩, ⟨Hb, ⟨%f2, Hy⟩, Ht20⟩, ⟨Hw, ⟨%f3, Hz⟩, Ht21⟩, ⟨Hrl, Hhl, Htp⟩, ⟨Hrr, Hhr, Htn⟩, Hcb, Hab⟩ HQ
  iapply (step_copy (src := aT) (dst := xfT) m c 19 rfl fullShare (xC m c) (f1) (by decide) rfl (in_top m c f1)) $$ [Ha Hx Ht19]
  · isplitr; · iexact HR
    isplitl [Ha]; · iexact Ha
    isplitl [Hx]; · iexact Hx
    iexact Ht19
  iintro Hc19
  iapply (step_copy (src := aB) (dst := xfB) m c 20 rfl fullShare (xC m c) (f2) (by decide) rfl (in_bot m c f2)) $$ [Hb Hy Ht20]
  · isplitr; · iexact HR
    isplitl [Hb]; · iexact Hb
    isplitl [Hy]; · iexact Hy
    iexact Ht20
  iintro Hc20
  iapply (step_copy (src := bM) (dst := wfM) m c 21 rfl fullShare (wC m c) (f3) (by decide) rfl (in_w m c f3)) $$ [Hw Hz Ht21]
  · isplitr; · iexact HR
    isplitl [Hw]; · iexact Hw
    isplitl [Hz]; · iexact Hz
    iexact Ht21
  iintro Hc21
  ihave Hp := (Entails.of_eq (bar_here m c)) $$ [Hrl Hhl]
  · isplitl [Hrl]; · iexact Hrl
    iexact Hhl
  iapply (step_signal m c (prv c) _ (dev1_eq c) true rfl (O1 c) (O0 c) rfl) $$ [Hp HO Htp]
  · isplitr; · iexact HR
    isplitl [Hp]; · iexact Hp
    isplitl [HO]; · iexact HO
    iexact Htp
  iintro HO
  ihave Hp := (Entails.of_eq (bar_there m c)) $$ [Hrr Hhr]
  · isplitl [Hrr]; · iexact Hrr
    iexact Hhr
  iapply (step_signal m c (nxt c) _ (dev2_eq c) false rfl (O2 c) (O1 c) rfl) $$ [Hp HO Htn]
  · isplitr; · iexact HR
    isplitl [Hp]; · iexact Hp
    isplitl [HO]; · iexact HO
    iexact Htn
  iintro HO
  iapply (step_barrier m c rfl (O2 c) 2 (above2 c) (by decide)) $$ [Hcb HO Hab]
  · isplitr; · iexact HR
    isplitr; · iexact HL
    isplitl [Hcb]; · iexact Hcb
    isplitl [HO]; · iexact HO
    iexact Hab
  iintro ⟨HO, Hv, HF, HT⟩
  iapply (step_ret c _)
  iapply HQ
  isplitl [HO]; · iexact HO
  isplitl [Hc19]; · iexact Hc19
  isplitl [Hc20]; · iexact Hc20
  isplitl [Hc21]; · iexact Hc21
  isplitl [Hv]; · iexact Hv
  isplitl [HF]; · iexact HF
  iexact HT

/-- The upper half of the rows arrives, is rounded and sent to the next device; the lower half arrives and is rounded. -/
theorem part2 (Q : PUnit → sProp (MT nD τ sig Unit (Elt F) ℕ UU ℕ)) (v4 v6 : BitVec 32) :
    iprop(Recs m
      ∗ levAts L lv
      ∗ Owe c (O2 c)
      ∗ (Cred c 19 ∗ At c 19 ∗ (∃ f, pts xqT c fullShare f))
      ∗ (Tok c 2 ∗ Tok (nxt c) 8 ∗ (∃ f, pts rlT (nxt c) fullShare f))
      ∗ (Cred c 20 ∗ At c 20 ∗ (∃ f, pts xqB c fullShare f)))
      ⊢ iprop(((Owe c (O3 c) ∗ Done c 19 ∗ Done c 20 ∗ pts xfT c fullShare (xC m c) ∗ pts aT c fullShare (xC m c) ∗ pts xfB c fullShare (xC m c) ∗ pts aB c fullShare (xC m c) ∗ Cred c 2 ∗ pts xqT c qK (xqC m c) ∗ pts xqT c qB (xqC m c) ∗ pts xqB c fullShare (xqC m c)) -∗ Q ⟨⟩)
        -∗ WP c (k0_part2 aM (Memref.isWhole_whole _) bM (Memref.isWhole_whole _) scM (Memref.isWhole_whole _) tcM (Memref.isWhole_whole _) oM (Memref.isWhole_whole _) xfM (Memref.isWhole_whole _) wfM (Memref.isWhole_whole _) xqM (Memref.isWhole_whole _) wqM (Memref.isWhole_whole _) rlM (Memref.isWhole_whole _) rrM (Memref.isWhole_whole _) hlM (Memref.isWhole_whole _) hrM (Memref.isWhole_whole _) stM (Memref.isWhole_whole _) cc0_scratch9 cc0_scratch10 cc0_scratch11 cc0_scratch12 c v4 v6) Q) := by
  rw [k0_part2_eq_skeleton]; unfold k0_part2_skel
  simp only [semSignalWord, semWaitWord, Prog.lift, Prog.bind_op, Prog.bind_ret, Prog.pure_eq_ret, Prog.bind_assoc]
  iintro ⟨#HR, #HL, HO, ⟨Hc19, Ha19, %f1, Hx⟩, ⟨Ht2, Ht8, %f2, Hr⟩, Hc20, Ha20, %f3, Hy⟩ HQ
  iapply (step_wait (src := aT) (dst := xfT) m c 19 rfl rfl (O2 c) 2 (above2 c) (by decide) (by decide)) $$ [Hc19 HO Ha19]
  · isplitr; · iexact HR
    isplitr; · iexact HL
    isplitl [Hc19]; · iexact Hc19
    isplitl [HO]; · iexact HO
    iexact Ha19
  iintro ⟨HO, Hd19, Hp19⟩
  ihave Hp19 := (Entails.of_eq (show pay m c 19 = iprop(pts xfT c fullShare (xC m c) ∗ pts aT c fullShare (xC m c)) from rfl)) $$ Hp19
  icases Hp19 with ⟨Hxf, Hxa⟩
  iapply (step_load_win c xfM topR (fun _ => rfl) fullShare (xC m c)) $$ [Hxf]
  · iexact Hxf
  iintro Hxf
  iapply (step_load_win c xqM topR (fun _ => rfl) fullShare (f1)) $$ [Hx]
  · iexact Hx
  iintro Hx
  iapply (step_store_win c xqM topR (fun _ => rfl) (f1)) $$ [Hx]
  · iexact Hx
  iintro Hx
  ihave Hx := (Entails.of_eq (round_top m c f1)) $$ Hx
  ihave Hx := ((pts_keep xqT c (xqC m c)).1) $$ Hx
  icases Hx with ⟨Hxk, Hxh⟩
  ihave Hxh := ((pts_lend xqT c (xqC m c)).1) $$ Hxh
  icases Hxh with ⟨HxA, HxB⟩
  iapply (step_send (src := xqT) (dst := rlT) m c 2 8 rfl rfl (nxt c) _ (dev3_eq c) qA (xqC m c) _ (O3 c) (O2 c) (by decide) (by decide) rfl rfl rfl (Entails.of_eq rfl) (recv0_pay m c _)) $$ [HxA Hr HO Ht2 Ht8]
  · isplitr; · iexact HR
    isplitl [HxA]; · iexact HxA
    isplitl [Hr]; · iexact Hr
    isplitl [HO]; · iexact HO
    isplitl [Ht2]; · iexact Ht2
    iexact Ht8
  iintro ⟨Hc2, HO⟩
  iapply (step_wait (src := aB) (dst := xfB) m c 20 rfl rfl (O3 c) 2 (above3 c) (by decide) (by decide)) $$ [Hc20 HO Ha20]
  · isplitr; · iexact HR
    isplitr; · iexact HL
    isplitl [Hc20]; · iexact Hc20
    isplitl [HO]; · iexact HO
    iexact Ha20
  iintro ⟨HO, Hd20, Hp20⟩
  ihave Hp20 := (Entails.of_eq (show pay m c 20 = iprop(pts xfB c fullShare (xC m c) ∗ pts aB c fullShare (xC m c)) from rfl)) $$ Hp20
  icases Hp20 with ⟨Hyf, Hya⟩
  iapply (step_load_win c xfM botR (fun _ => rfl) fullShare (xC m c)) $$ [Hyf]
  · iexact Hyf
  iintro Hyf
  iapply (step_load_win c xqM botR (fun _ => rfl) fullShare (f3)) $$ [Hy]
  · iexact Hy
  iintro Hy
  iapply (step_store_win c xqM botR (fun _ => rfl) (f3)) $$ [Hy]
  · iexact Hy
  iintro Hy
  ihave Hy := (Entails.of_eq (round_bot m c f3)) $$ Hy
  iapply (step_ret c _)
  iapply HQ
  isplitl [HO]; · iexact HO
  isplitl [Hd19]; · iexact Hd19
  isplitl [Hd20]; · iexact Hd20
  isplitl [Hxf]; · iexact Hxf
  isplitl [Hxa]; · iexact Hxa
  isplitl [Hyf]; · iexact Hyf
  isplitl [Hya]; · iexact Hya
  isplitl [Hc2]; · iexact Hc2
  isplitl [Hxk]; · iexact Hxk
  isplitl [HxB]; · iexact HxB
  iexact Hy

/-- The other three sends of the first step; the columns arrive and are rounded; the scales are read. -/
theorem part3 (Q : (Σ' (_ : Elt F .f32), Elt F .f32) → sProp (MT nD τ sig Unit (Elt F) ℕ UU ℕ)) (v4 v6 : BitVec 32) :
    iprop(Recs m
      ∗ levAts L lv
      ∗ Owe c (O3 c)
      ∗ pts xqB c fullShare (xqC m c)
      ∗ pts xqT c qB (xqC m c)
      ∗ (Tok c 4 ∗ Tok (prv c) 10 ∗ (∃ f, pts rrB (prv c) fullShare f))
      ∗ (Tok c 3 ∗ Tok (nxt c) 9 ∗ (∃ f, pts rlB (nxt c) fullShare f))
      ∗ (Tok c 5 ∗ Tok (prv c) 11 ∗ (∃ f, pts rrT (prv c) fullShare f))
      ∗ (Cred c 21 ∗ At c 21 ∗ (∃ f, pts wqM c fullShare f))
      ∗ pts scM c fullShare (saC m c)
      ∗ pts tcM c fullShare (sbC m c))
      ⊢ iprop(((Owe c (O6 c) ∗ Cred c 4 ∗ Cred c 3 ∗ Cred c 5 ∗ pts xqB c qK (xqC m c) ∗ Done c 21 ∗ pts wfM c fullShare (wC m c) ∗ pts bM c fullShare (wC m c) ∗ pts wqM c fullShare (wqC m c) ∗ pts scM c fullShare (saC m c) ∗ pts tcM c fullShare (sbC m c)) -∗ Q ⟨sa m c, sb m c⟩)
        -∗ WP c (k0_part3 aM (Memref.isWhole_whole _) bM (Memref.isWhole_whole _) scM (Memref.isWhole_whole _) tcM (Memref.isWhole_whole _) oM (Memref.isWhole_whole _) xfM (Memref.isWhole_whole _) wfM (Memref.isWhole_whole _) xqM (Memref.isWhole_whole _) wqM (Memref.isWhole_whole _) rlM (Memref.isWhole_whole _) rrM (Memref.isWhole_whole _) hlM (Memref.isWhole_whole _) hrM (Memref.isWhole_whole _) stM (Memref.isWhole_whole _) cc0_scratch9 cc0_scratch10 cc0_scratch11 cc0_scratch12 c v4 v6) Q) := by
  rw [k0_part3_eq_skeleton]; unfold k0_part3_skel
  simp only [smemLoad, smemLoadElt, semSignalWord, semWaitWord, Prog.lift, Prog.bind_op, Prog.bind_ret, Prog.pure_eq_ret, Prog.bind_assoc]
  iintro ⟨#HR, #HL, HO, Hy, HxB, ⟨Ht4, Ht10, %f1, Hr10⟩, ⟨Ht3, Ht9, %f2, Hr9⟩, ⟨Ht5, Ht11, %f3, Hr11⟩, ⟨Hc21, Ha21, %f4, Hw⟩, Hs, Ht⟩ HQ
  ihave Hy := ((pts_keep xqB c (xqC m c)).1) $$ Hy
  icases Hy with ⟨Hyk, Hyh⟩
  ihave Hyh := ((pts_lend xqB c (xqC m c)).1) $$ Hyh
  icases Hyh with ⟨HyA, HyB⟩
  iapply (step_send (src := xqB) (dst := rrB) m c 4 10 rfl rfl (prv c) _ (dev4_eq c) qA (xqC m c) _ (O4 c) (O3 c) (by decide) (by decide) rfl rfl rfl (Entails.of_eq rfl) (recv2_pay m c _)) $$ [HyA Hr10 HO Ht4 Ht10]
  · isplitr; · iexact HR
    isplitl [HyA]; · iexact HyA
    isplitl [Hr10]; · iexact Hr10
    isplitl [HO]; · iexact HO
    isplitl [Ht4]; · iexact Ht4
    iexact Ht10
  iintro ⟨Hc4, HO⟩
  iapply (step_send (src := xqB) (dst := rlB) m c 3 9 rfl rfl (nxt c) _ (dev5_eq c) qB (xqC m c) _ (O5 c) (O4 c) (by decide) (by decide) rfl rfl rfl (Entails.of_eq rfl) (recv1_pay m c _)) $$ [HyB Hr9 HO Ht3 Ht9]
  · isplitr; · iexact HR
    isplitl [HyB]; · iexact HyB
    isplitl [Hr9]; · iexact Hr9
    isplitl [HO]; · iexact HO
    isplitl [Ht3]; · iexact Ht3
    iexact Ht9
  iintro ⟨Hc3, HO⟩
  iapply (step_send (src := xqT) (dst := rrT) m c 5 11 rfl rfl (prv c) _ (dev6_eq c) qB (xqC m c) _ (O6 c) (O5 c) (by decide) (by decide) rfl rfl rfl (Entails.of_eq rfl) (recv3_pay m c _)) $$ [HxB Hr11 HO Ht5 Ht11]
  · isplitr; · iexact HR
    isplitl [HxB]; · iexact HxB
    isplitl [Hr11]; · iexact Hr11
    isplitl [HO]; · iexact HO
    isplitl [Ht5]; · iexact Ht5
    iexact Ht11
  iintro ⟨Hc5, HO⟩
  iapply (step_wait (src := bM) (dst := wfM) m c 21 rfl rfl (O6 c) 3 (above6 c) (by decide) (by decide)) $$ [Hc21 HO Ha21]
  · isplitr; · iexact HR
    isplitr; · iexact HL
    isplitl [Hc21]; · iexact Hc21
    isplitl [HO]; · iexact HO
    iexact Ha21
  iintro ⟨HO, Hd21, Hp21⟩
  ihave Hp21 := (Entails.of_eq (show pay m c 21 = iprop(pts wfM c fullShare (wC m c) ∗ pts bM c fullShare (wC m c)) from rfl)) $$ Hp21
  icases Hp21 with ⟨Hwf, Hwb⟩
  iapply (step_load c wfM wR fullShare (wC m c)) $$ [Hwf]
  · iexact Hwf
  iintro Hwf
  iapply (step_load c wqM wR fullShare (f4)) $$ [Hw]
  · iexact Hw
  iintro Hw
  iapply (step_store c wqM wR (f4)) $$ [Hw]
  · iexact Hw
  iintro Hw
  ihave Hw := (Entails.of_eq (round_w m c f4)) $$ Hw
  iapply (step_load c scM oneR fullShare (saC m c)) $$ [Hs]
  · iexact Hs
  iintro Hs
  iapply (step_load c tcM oneR fullShare (sbC m c)) $$ [Ht]
  · iexact Ht
  iintro Ht
  rw [scale_a m c, scale_b m c]
  iapply (step_ret c _)
  iapply HQ
  isplitl [HO]; · iexact HO
  isplitl [Hc4]; · iexact Hc4
  isplitl [Hc3]; · iexact Hc3
  isplitl [Hc5]; · iexact Hc5
  isplitl [Hyk]; · iexact Hyk
  isplitl [Hd21]; · iexact Hd21
  isplitl [Hwf]; · iexact Hwf
  isplitl [Hwb]; · iexact Hwb
  isplitl [Hw]; · iexact Hw
  isplitl [Hs]; · iexact Hs
  iexact Ht

/-- The block of the own rows is computed and its copy out started. -/
theorem part4 (Q : (F .f32) → sProp (MT nD τ sig Unit (Elt F) ℕ UU ℕ)) (v2 v6 : BitVec 32) :
    iprop(Recs m
      ∗ pts xqT c qK (xqC m c)
      ∗ pts xqB c qK (xqC m c)
      ∗ pts wqM c fullShare (wqC m c)
      ∗ ((∃ f, pts sM0 c fullShare f) ∗ (∃ f, pts (oW0 c) c fullShare f) ∗ Tok c 14))
      ⊢ iprop(((pts xqM c qK (xqC m c) ∗ pts wqM c fullShare (wqC m c) ∗ Cred c 14) -∗ Q (k0_pay4 (sa m c) (sb m c)))
        -∗ WP c (k0_part4 aM (Memref.isWhole_whole _) bM (Memref.isWhole_whole _) scM (Memref.isWhole_whole _) tcM (Memref.isWhole_whole _) oM (Memref.isWhole_whole _) xfM (Memref.isWhole_whole _) wfM (Memref.isWhole_whole _) xqM (Memref.isWhole_whole _) wqM (Memref.isWhole_whole _) rlM (Memref.isWhole_whole _) rrM (Memref.isWhole_whole _) hlM (Memref.isWhole_whole _) hrM (Memref.isWhole_whole _) stM (Memref.isWhole_whole _) cc0_scratch9 cc0_scratch10 cc0_scratch11 cc0_scratch12 c v2 v6 (sa m c) (sb m c)) Q) := by
  rw [k0_part4_eq_skeleton]; unfold k0_part4_skel
  simp only [semSignalWord, semWaitWord, Prog.lift, Prog.bind_op, Prog.bind_ret, Prog.pure_eq_ret, Prog.bind_assoc]
  iintro ⟨#HR, Hxt, Hxb, Hw, ⟨%f0, Hst⟩, ⟨%g, Ho⟩, Ht14⟩ HQ
  ihave Hx := ((pts_halves xqM c qK (xqC m c)).2) $$ [Hxt Hxb]
  · isplitl [Hxt]; · iexact Hxt
    iexact Hxb
  iapply (step_load c xqM xR qK (xqC m c)) $$ [Hx]
  · iexact Hx
  iintro Hx
  iapply (step_load c wqM wR fullShare (wqC m c)) $$ [Hw]
  · iexact Hw
  iintro Hw
  ihave Hst := (Entails.of_eq (slot_view0 c f0).symm) $$ Hst
  iapply (step_load_win c stM sR0 (fun _ => rfl) fullShare (f0)) $$ [Hst]
  · iexact Hst
  iintro Hst
  iapply (step_store_win c stM sR0 (fun _ => rfl) (f0)) $$ [Hst]
  · iexact Hst
  iintro Hst
  ihave Hst := (Entails.of_eq (stored0 m c f0)) $$ Hst
  iapply (step_copy (src := sM0) (dst := (oW0 c)) m c 14 rfl fullShare (_) (g) (by decide) rfl (out_pay0 m c g f0)) $$ [Hst Ho Ht14]
  · isplitr; · iexact HR
    isplitl [Hst]; · iexact Hst
    isplitl [Ho]; · iexact Ho
    iexact Ht14
  iintro Hc14
  iapply (step_ret c _)
  iapply HQ
  isplitl [Hx]; · iexact Hx
  isplitl [Hw]; · iexact Hw
  iexact Hc14

/-- The first two receives of the neighbours' halves, each sent on at once to the device beyond. -/
theorem part5 (Q : PUnit → sProp (MT nD τ sig Unit (Elt F) ℕ UU ℕ)) (v4 v6 : BitVec 32) :
    iprop(Recs m ∗ levAts L lv ∗ Owe c (O6 c) ∗ (Cred c 8 ∗ At c 8)
      ∗ (Tok c 6 ∗ Tok (nxt c) 12 ∗ ∃ f, pts hlM (nxt c) fullShare f) ∗ (Cred c 10 ∗ At c 10)
      ∗ (Tok c 7 ∗ Tok (prv c) 13 ∗ ∃ f, pts hrM (prv c) fullShare f))
      ⊢ iprop(((Owe c 0 ∗ Done c 8 ∗ Done c 10 ∗ Cred c 6 ∗ Cred c 7 ∗ pts rlT c qK (xqC m (prv c)) ∗ pts rrB c qK (xqC m (nxt c))) -∗ Q ⟨⟩)
        -∗ WP c (k0_part5 aM (Memref.isWhole_whole _) bM (Memref.isWhole_whole _) scM (Memref.isWhole_whole _) tcM (Memref.isWhole_whole _) oM (Memref.isWhole_whole _) xfM (Memref.isWhole_whole _) wfM (Memref.isWhole_whole _) xqM (Memref.isWhole_whole _) wqM (Memref.isWhole_whole _) rlM (Memref.isWhole_whole _) rrM (Memref.isWhole_whole _) hlM (Memref.isWhole_whole _) hrM (Memref.isWhole_whole _) stM (Memref.isWhole_whole _) cc0_scratch9 cc0_scratch10 cc0_scratch11 cc0_scratch12 c v4 v6) Q) := by
  rw [k0_part5_eq_skeleton]; unfold k0_part5_skel
  simp only [semSignalWord, semWaitWord, Prog.lift, Prog.bind_op, Prog.bind_ret, Prog.pure_eq_ret, Prog.bind_assoc]
  iintro ⟨#HR, #HL, HO, ⟨Hc8, Ha8⟩, ⟨Ht6, Ht12, %f12, Hh12⟩, ⟨Hc10, Ha10⟩, Ht7, Ht13, %f13, Hh13⟩ HQ
  iapply (step_wait (src := xqT) (dst := rlT) m c 8 rfl rfl (O6 c) 3 (above6 c) (by decide) (by decide)) $$ [Hc8 HO Ha8]
  · isplitr; · iexact HR
    isplitr; · iexact HL
    isplitl [Hc8]; · iexact Hc8
    isplitl [HO]; · iexact HO
    iexact Ha8
  iintro ⟨HO, Hd8, Hp8⟩
  ihave Hp8 := (Entails.of_eq (show pay m c 8 = pts rlT c fullShare (xqC m (prv c)) from rfl)) $$ Hp8
  ihave Hp8 := (pts_keep rlT c (xqC m (prv c))).1 $$ Hp8
  icases Hp8 with ⟨Hk8, Hl8⟩
  iapply (step_send (src := rlT) (dst := hlM) m c 6 12 rfl rfl (nxt c) _ (dev7_eq c) qH (xqC m (prv c)) _ (O7 c) (O6 c) (by decide) (by decide) rfl rfl rfl (Entails.of_eq rfl) (recv4_pay m c _)) $$ [Hl8 Hh12 HO Ht6 Ht12]
  · isplitr; · iexact HR
    isplitl [Hl8]; · iexact Hl8
    isplitl [Hh12]; · iexact Hh12
    isplitl [HO]; · iexact HO
    isplitl [Ht6]; · iexact Ht6
    iexact Ht12
  iintro ⟨Hc6, HO⟩
  iapply (step_wait (src := xqB) (dst := rrB) m c 10 rfl rfl (O7 c) 3 (above7 c) (by decide) (by decide)) $$ [Hc10 HO Ha10]
  · isplitr; · iexact HR
    isplitr; · iexact HL
    isplitl [Hc10]; · iexact Hc10
    isplitl [HO]; · iexact HO
    iexact Ha10
  iintro ⟨HO, Hd10, Hp10⟩
  ihave Hp10 := (Entails.of_eq (show pay m c 10 = pts rrB c fullShare (xqC m (nxt c)) from rfl)) $$ Hp10
  ihave Hp10 := (pts_keep rrB c (xqC m (nxt c))).1 $$ Hp10
  icases Hp10 with ⟨Hk10, Hl10⟩
  iapply (step_send (src := rrB) (dst := hrM) m c 7 13 rfl rfl (prv c) _ (dev8_eq c) qH (xqC m (nxt c)) _ (0) (O7 c) (by decide) (by decide) rfl rfl rfl (Entails.of_eq rfl) (recv5_pay m c _)) $$ [Hl10 Hh13 HO Ht7 Ht13]
  · isplitr; · iexact HR
    isplitl [Hl10]; · iexact Hl10
    isplitl [Hh13]; · iexact Hh13
    isplitl [HO]; · iexact HO
    isplitl [Ht7]; · iexact Ht7
    iexact Ht13
  iintro ⟨Hc7, HO⟩
  iapply (step_ret c _)
  iapply HQ
  isplitl [HO]; · iexact HO
  isplitl [Hd8]; · iexact Hd8
  isplitl [Hd10]; · iexact Hd10
  isplitl [Hc6]; · iexact Hc6
  isplitl [Hc7]; · iexact Hc7
  isplitl [Hk8]; · iexact Hk8
  iexact Hk10

end Cert.Gather
-- ==== Proof.Blocks.lean ====
/-
# The exchange, part by part (second half)

The blocks of the received rows, and the waits for the sends.
-/
module

public import proofs.«01_k».proof.Proof.Contents

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

/-- The lower half of the rows of the previous device arrives; the block of its rows is computed and its copy out started. -/
theorem part6 (Q : PUnit → sProp (MT nD τ sig Unit (Elt F) ℕ UU ℕ)) (v4 : BitVec 32) :
    iprop(Recs m
      ∗ levAts L lv
      ∗ Owe c 0
      ∗ (Cred c 9 ∗ At c 9)
      ∗ pts rlT c qK (xqC m (prv c))
      ∗ pts wqM c fullShare (wqC m c)
      ∗ ((∃ f, pts sM1 c fullShare f) ∗ (∃ f, pts (oW1 c) c fullShare f) ∗ Tok c 15))
      ⊢ iprop(((Owe c 0 ∗ Done c 9 ∗ pts rlM c qK (xqC m (prv c)) ∗ pts rlB c qH (xqC m (prv c)) ∗ pts wqM c fullShare (wqC m c) ∗ Cred c 15) -∗ Q ⟨⟩)
        -∗ WP c (k0_part6 aM (Memref.isWhole_whole _) bM (Memref.isWhole_whole _) scM (Memref.isWhole_whole _) tcM (Memref.isWhole_whole _) oM (Memref.isWhole_whole _) xfM (Memref.isWhole_whole _) wfM (Memref.isWhole_whole _) xqM (Memref.isWhole_whole _) wqM (Memref.isWhole_whole _) rlM (Memref.isWhole_whole _) rrM (Memref.isWhole_whole _) hlM (Memref.isWhole_whole _) hrM (Memref.isWhole_whole _) stM (Memref.isWhole_whole _) cc0_scratch9 cc0_scratch10 cc0_scratch11 cc0_scratch12 c v4 (k0_pay4 (sa m c) (sb m c))) Q) := by
  rw [k0_part6_eq_skeleton]; unfold k0_part6_skel
  simp only [semSignalWord, semWaitWord, Prog.lift, Prog.bind_op, Prog.bind_ret, Prog.pure_eq_ret, Prog.bind_assoc]
  iintro ⟨#HR, #HL, HO, ⟨Hc9, Ha9⟩, Hk, Hw, ⟨%f1, Hst⟩, ⟨%g, Ho⟩, Ht15⟩ HQ
  iapply (step_wait (src := xqB) (dst := rlB) m c 9 rfl rfl 0 3 (above_zero 3) (by decide) (by decide)) $$ [Hc9 HO Ha9]
  · isplitr; · iexact HR
    isplitr; · iexact HL
    isplitl [Hc9]; · iexact Hc9
    isplitl [HO]; · iexact HO
    iexact Ha9
  iintro ⟨HO, Hd9, Hp9⟩
  ihave Hp9 := (Entails.of_eq (show pay m c 9 = pts rlB c fullShare (xqC m (prv c)) from rfl)) $$ Hp9
  ihave Hp9 := ((pts_keep rlB c (xqC m (prv c))).1) $$ Hp9
  icases Hp9 with ⟨Hbk, Hbh⟩
  ihave Hx := ((pts_halves rlM c qK (xqC m (prv c))).2) $$ [Hk Hbk]
  · isplitl [Hk]; · iexact Hk
    iexact Hbk
  iapply (step_load c rlM xR qK (xqC m (prv c))) $$ [Hx]
  · iexact Hx
  iintro Hx
  iapply (step_load c wqM wR fullShare (wqC m c)) $$ [Hw]
  · iexact Hw
  iintro Hw
  ihave Hst := (Entails.of_eq (slot_view1 c f1).symm) $$ Hst
  iapply (step_load_win c stM sR1 (fun _ => rfl) fullShare (f1)) $$ [Hst]
  · iexact Hst
  iintro Hst
  iapply (step_store_win c stM sR1 (fun _ => rfl) (f1)) $$ [Hst]
  · iexact Hst
  iintro Hst
  ihave Hst := (Entails.of_eq (stored1 m c f1)) $$ Hst
  iapply (step_copy (src := sM1) (dst := (oW1 c)) m c 15 rfl fullShare (_) (g) (by decide) rfl (out_pay1 m c g f1)) $$ [Hst Ho Ht15]
  · isplitr; · iexact HR
    isplitl [Hst]; · iexact Hst
    isplitl [Ho]; · iexact Ho
    iexact Ht15
  iintro Hc15
  iapply (step_ret c _)
  iapply HQ
  isplitl [HO]; · iexact HO
  isplitl [Hd9]; · iexact Hd9
  isplitl [Hx]; · iexact Hx
  isplitl [Hbh]; · iexact Hbh
  isplitl [Hw]; · iexact Hw
  iexact Hc15

/-- The upper half of the rows of the next device arrives; the block of its rows is computed and its copy out started. -/
theorem part7 (Q : (Σ' (_ : BitVec 32), BitVec 32) → sProp (MT nD τ sig Unit (Elt F) ℕ UU ℕ)) (v2 v6 : BitVec 32) :
    iprop(Recs m
      ∗ levAts L lv
      ∗ Owe c 0
      ∗ (Cred c 11 ∗ At c 11)
      ∗ pts rrB c qK (xqC m (nxt c))
      ∗ pts wqM c fullShare (wqC m c)
      ∗ ((∃ f, pts sM2 c fullShare f) ∗ (∃ f, pts (oW2 c) c fullShare f) ∗ Tok c 16))
      ⊢ iprop((∀ (v200 : BitVec 32) (v201 : BitVec 32), (Owe c 0 ∗ Done c 11 ∗ pts rrM c qK (xqC m (nxt c)) ∗ pts rrT c qH (xqC m (nxt c)) ∗ pts wqM c fullShare (wqC m c) ∗ Cred c 16) -∗ Q ⟨v200, v201⟩)
        -∗ WP c (k0_part7 aM (Memref.isWhole_whole _) bM (Memref.isWhole_whole _) scM (Memref.isWhole_whole _) tcM (Memref.isWhole_whole _) oM (Memref.isWhole_whole _) xfM (Memref.isWhole_whole _) wfM (Memref.isWhole_whole _) xqM (Memref.isWhole_whole _) wqM (Memref.isWhole_whole _) rlM (Memref.isWhole_whole _) rrM (Memref.isWhole_whole _) hlM (Memref.isWhole_whole _) hrM (Memref.isWhole_whole _) stM (Memref.isWhole_whole _) cc0_scratch9 cc0_scratch10 cc0_scratch11 cc0_scratch12 c v2 v6 (k0_pay4 (sa m c) (sb m c))) Q) := by
  rw [k0_part7_eq_skeleton]; unfold k0_part7_skel
  simp only [semSignalWord, semWaitWord, Prog.lift, Prog.bind_op, Prog.bind_ret, Prog.pure_eq_ret, Prog.bind_assoc]
  iintro ⟨#HR, #HL, HO, ⟨Hc11, Ha11⟩, Hk, Hw, ⟨%f2, Hst⟩, ⟨%g, Ho⟩, Ht16⟩ HQ
  iapply (step_wait (src := xqT) (dst := rrT) m c 11 rfl rfl (0) 3 (above_zero 3) (by decide) (by decide)) $$ [Hc11 HO Ha11]
  · isplitr; · iexact HR
    isplitr; · iexact HL
    isplitl [Hc11]; · iexact Hc11
    isplitl [HO]; · iexact HO
    iexact Ha11
  iintro ⟨HO, Hd11, Hp11⟩
  ihave Hp11 := (Entails.of_eq (show pay m c 11 = pts rrT c fullShare (xqC m (nxt c)) from rfl)) $$ Hp11
  ihave Hp11 := ((pts_keep rrT c (xqC m (nxt c))).1) $$ Hp11
  icases Hp11 with ⟨Hbk, Hbh⟩
  ihave Hx := ((pts_halves rrM c qK (xqC m (nxt c))).2) $$ [Hbk Hk]
  · isplitl [Hbk]; · iexact Hbk
    iexact Hk
  iapply (step_load c rrM xR qK (xqC m (nxt c))) $$ [Hx]
  · iexact Hx
  iintro Hx
  iapply (step_load c wqM wR fullShare (wqC m c)) $$ [Hw]
  · iexact Hw
  iintro Hw
  ihave Hst := (Entails.of_eq (slot_view2 c f2).symm) $$ Hst
  iapply (step_load_win c stM sR2 (fun _ => rfl) fullShare (f2)) $$ [Hst]
  · iexact Hst
  iintro Hst
  iapply (step_store_win c stM sR2 (fun _ => rfl) (f2)) $$ [Hst]
  · iexact Hst
  iintro Hst
  ihave Hst := (Entails.of_eq (stored2 m c f2)) $$ Hst
  iapply (step_copy (src := sM2) (dst := (oW2 c)) m c 16 rfl fullShare (_) (g) (by decide) rfl (out_pay2 m c g f2)) $$ [Hst Ho Ht16]
  · isplitr; · iexact HR
    isplitl [Hst]; · iexact Hst
    isplitl [Ho]; · iexact Ho
    iexact Ht16
  iintro Hc16
  iapply (step_ret c _)
  iapply HQ
  isplitl [HO]; · iexact HO
  isplitl [Hd11]; · iexact Hd11
  isplitl [Hx]; · iexact Hx
  isplitl [Hbh]; · iexact Hbh
  isplitl [Hw]; · iexact Hw
  iexact Hc16

/-- The upper half of the rows of the opposite device arrives; its block is computed and its copy out started. -/
theorem part8 (Q : PUnit → sProp (MT nD τ sig Unit (Elt F) ℕ UU ℕ)) (v4 v201 : BitVec 32) :
    iprop(Recs m
      ∗ levAts L lv
      ∗ Owe c 0
      ∗ (Cred c 12 ∗ At c 12)
      ∗ pts wqM c fullShare (wqC m c)
      ∗ ((∃ f, pts sM3 c fullShare f) ∗ (∃ f, pts (oW3 c) c fullShare f) ∗ Tok c 17))
      ⊢ iprop(((Owe c 0 ∗ Done c 12 ∗ pts hlM c fullShare (topOf (xqC m (opp c))) ∗ pts wqM c fullShare (wqC m c) ∗ Cred c 17) -∗ Q ⟨⟩)
        -∗ WP c (k0_part8 aM (Memref.isWhole_whole _) bM (Memref.isWhole_whole _) scM (Memref.isWhole_whole _) tcM (Memref.isWhole_whole _) oM (Memref.isWhole_whole _) xfM (Memref.isWhole_whole _) wfM (Memref.isWhole_whole _) xqM (Memref.isWhole_whole _) wqM (Memref.isWhole_whole _) rlM (Memref.isWhole_whole _) rrM (Memref.isWhole_whole _) hlM (Memref.isWhole_whole _) hrM (Memref.isWhole_whole _) stM (Memref.isWhole_whole _) cc0_scratch9 cc0_scratch10 cc0_scratch11 cc0_scratch12 c v4 (k0_pay4 (sa m c) (sb m c)) v201) Q) := by
  rw [k0_part8_eq_skeleton]; unfold k0_part8_skel
  simp only [semSignalWord, semWaitWord, Prog.lift, Prog.bind_op, Prog.bind_ret, Prog.pure_eq_ret, Prog.bind_assoc]
  iintro ⟨#HR, #HL, HO, ⟨Hc12, Ha12⟩, Hw, ⟨%f3, Hst⟩, ⟨%g, Ho⟩, Ht17⟩ HQ
  iapply (step_wait (src := rlT) (dst := hlM) m c 12 rfl rfl (0) 4 (above_zero 4) (by decide) (by decide)) $$ [Hc12 HO Ha12]
  · isplitr; · iexact HR
    isplitr; · iexact HL
    isplitl [Hc12]; · iexact Hc12
    isplitl [HO]; · iexact HO
    iexact Ha12
  iintro ⟨HO, Hd12, Hx⟩
  ihave Hx := (Entails.of_eq (show pay m c 12 = pts hlM c fullShare (topOf (xqC m (opp c))) from rfl)) $$ Hx
  iapply (step_load c hlM hR fullShare (topOf (xqC m (opp c)))) $$ [Hx]
  · iexact Hx
  iintro Hx
  iapply (step_load c wqM wR fullShare (wqC m c)) $$ [Hw]
  · iexact Hw
  iintro Hw
  ihave Hst := (Entails.of_eq (slot_view3 c f3).symm) $$ Hst
  iapply (step_load_win c stM sR3 (fun _ => rfl) fullShare (f3)) $$ [Hst]
  · iexact Hst
  iintro Hst
  iapply (step_store_win c stM sR3 (fun _ => rfl) (f3)) $$ [Hst]
  · iexact Hst
  iintro Hst
  ihave Hst := (Entails.of_eq (stored3 m c f3)) $$ Hst
  iapply (step_copy (src := sM3) (dst := (oW3 c)) m c 17 rfl fullShare (_) (g) (by decide) rfl (out_pay3 m c g f3)) $$ [Hst Ho Ht17]
  · isplitr; · iexact HR
    isplitl [Hst]; · iexact Hst
    isplitl [Ho]; · iexact Ho
    iexact Ht17
  iintro Hc17
  iapply (step_ret c _)
  iapply HQ
  isplitl [HO]; · iexact HO
  isplitl [Hd12]; · iexact Hd12
  isplitl [Hx]; · iexact Hx
  isplitl [Hw]; · iexact Hw
  iexact Hc17

/-- The lower half of the rows of the opposite device arrives; its block is computed and its copy out started. -/
theorem part9 (Q : PUnit → sProp (MT nD τ sig Unit (Elt F) ℕ UU ℕ)) (v200 : BitVec 32) :
    iprop(Recs m
      ∗ levAts L lv
      ∗ Owe c 0
      ∗ (Cred c 13 ∗ At c 13)
      ∗ pts wqM c fullShare (wqC m c)
      ∗ ((∃ f, pts sM4 c fullShare f) ∗ (∃ f, pts (oW4 c) c fullShare f) ∗ Tok c 18))
      ⊢ iprop(((Owe c 0 ∗ Done c 13 ∗ pts hrM c fullShare (botOf (xqC m (opp c))) ∗ pts wqM c fullShare (wqC m c) ∗ Cred c 18) -∗ Q ⟨⟩)
        -∗ WP c (k0_part9 aM (Memref.isWhole_whole _) bM (Memref.isWhole_whole _) scM (Memref.isWhole_whole _) tcM (Memref.isWhole_whole _) oM (Memref.isWhole_whole _) xfM (Memref.isWhole_whole _) wfM (Memref.isWhole_whole _) xqM (Memref.isWhole_whole _) wqM (Memref.isWhole_whole _) rlM (Memref.isWhole_whole _) rrM (Memref.isWhole_whole _) hlM (Memref.isWhole_whole _) hrM (Memref.isWhole_whole _) stM (Memref.isWhole_whole _) cc0_scratch9 cc0_scratch10 cc0_scratch11 cc0_scratch12 c (k0_pay4 (sa m c) (sb m c)) v200) Q) := by
  rw [k0_part9_eq_skeleton]; unfold k0_part9_skel
  simp only [semSignalWord, semWaitWord, Prog.lift, Prog.bind_op, Prog.bind_ret, Prog.pure_eq_ret, Prog.bind_assoc]
  iintro ⟨#HR, #HL, HO, ⟨Hc13, Ha13⟩, Hw, ⟨%f4, Hst⟩, ⟨%g, Ho⟩, Ht18⟩ HQ
  iapply (step_wait (src := rrB) (dst := hrM) m c 13 rfl rfl (0) 4 (above_zero 4) (by decide) (by decide)) $$ [Hc13 HO Ha13]
  · isplitr; · iexact HR
    isplitr; · iexact HL
    isplitl [Hc13]; · iexact Hc13
    isplitl [HO]; · iexact HO
    iexact Ha13
  iintro ⟨HO, Hd13, Hx⟩
  ihave Hx := (Entails.of_eq (show pay m c 13 = pts hrM c fullShare (botOf (xqC m (opp c))) from rfl)) $$ Hx
  iapply (step_load c hrM hR fullShare (botOf (xqC m (opp c)))) $$ [Hx]
  · iexact Hx
  iintro Hx
  iapply (step_load c wqM wR fullShare (wqC m c)) $$ [Hw]
  · iexact Hw
  iintro Hw
  ihave Hst := (Entails.of_eq (slot_view4 c f4).symm) $$ Hst
  iapply (step_load_win c stM sR4 (fun _ => rfl) fullShare (f4)) $$ [Hst]
  · iexact Hst
  iintro Hst
  iapply (step_store_win c stM sR4 (fun _ => rfl) (f4)) $$ [Hst]
  · iexact Hst
  iintro Hst
  ihave Hst := (Entails.of_eq (stored4 m c f4)) $$ Hst
  iapply (step_copy (src := sM4) (dst := (oW4 c)) m c 18 rfl fullShare (_) (g) (by decide) rfl (out_pay4 m c g f4)) $$ [Hst Ho Ht18]
  · isplitr; · iexact HR
    isplitl [Hst]; · iexact Hst
    isplitl [Ho]; · iexact Ho
    iexact Ht18
  iintro Hc18
  iapply (step_ret c _)
  iapply HQ
  isplitl [HO]; · iexact HO
  isplitl [Hd13]; · iexact Hd13
  isplitl [Hx]; · iexact Hx
  isplitl [Hw]; · iexact Hw
  iexact Hc18

/-- The six sends have been read out: the shares lent to them come back. -/
theorem part10 (Q : PUnit → sProp (MT nD τ sig Unit (Elt F) ℕ UU ℕ)) :
    iprop(Recs m
      ∗ levAts L lv
      ∗ Owe c 0
      ∗ (Cred c 2 ∗ At c 2)
      ∗ (Cred c 3 ∗ At c 3)
      ∗ (Cred c 4 ∗ At c 4)
      ∗ (Cred c 5 ∗ At c 5)
      ∗ (Cred c 6 ∗ At c 6)
      ∗ (Cred c 7 ∗ At c 7))
      ⊢ iprop(((Owe c 0 ∗ Done c 2 ∗ Done c 3 ∗ Done c 4 ∗ Done c 5 ∗ Done c 6 ∗ Done c 7 ∗ pts xqT c qA (xqC m c) ∗ pts xqB c qB (xqC m c) ∗ pts xqB c qA (xqC m c) ∗ pts xqT c qB (xqC m c) ∗ pts rlT c qH (xqC m (prv c)) ∗ pts rrB c qH (xqC m (nxt c))) -∗ Q ⟨⟩)
        -∗ WP c (k0_part10 aM (Memref.isWhole_whole _) bM (Memref.isWhole_whole _) scM (Memref.isWhole_whole _) tcM (Memref.isWhole_whole _) oM (Memref.isWhole_whole _) xfM (Memref.isWhole_whole _) wfM (Memref.isWhole_whole _) xqM (Memref.isWhole_whole _) wqM (Memref.isWhole_whole _) rlM (Memref.isWhole_whole _) rrM (Memref.isWhole_whole _) hlM (Memref.isWhole_whole _) hrM (Memref.isWhole_whole _) stM (Memref.isWhole_whole _) cc0_scratch9 cc0_scratch10 cc0_scratch11 cc0_scratch12) Q) := by
  rw [k0_part10_eq_skeleton]; unfold k0_part10_skel
  simp only [semSignalWord, semWaitWord, Prog.lift, Prog.bind_op, Prog.bind_ret, Prog.pure_eq_ret, Prog.bind_assoc]
  iintro ⟨#HR, #HL, HO, ⟨Hc2, Ha2⟩, ⟨Hc3, Ha3⟩, ⟨Hc4, Ha4⟩, ⟨Hc5, Ha5⟩, ⟨Hc6, Ha6⟩, Hc7, Ha7⟩ HQ
  iapply (step_wait (src := rlT) (dst := xqT) m c 2 rfl rfl (0) 1 (above_zero 1) (by decide) (by decide)) $$ [Hc2 HO Ha2]
  · isplitr; · iexact HR
    isplitr; · iexact HL
    isplitl [Hc2]; · iexact Hc2
    isplitl [HO]; · iexact HO
    iexact Ha2
  iintro ⟨HO, Hd2, Hp2⟩
  ihave Hp2 := (Entails.of_eq (show pay m c 2 = pts xqT c qA (xqC m c) from rfl)) $$ Hp2
  iapply (step_wait (src := rlB) (dst := xqB) m c 3 rfl rfl (0) 1 (above_zero 1) (by decide) (by decide)) $$ [Hc3 HO Ha3]
  · isplitr; · iexact HR
    isplitr; · iexact HL
    isplitl [Hc3]; · iexact Hc3
    isplitl [HO]; · iexact HO
    iexact Ha3
  iintro ⟨HO, Hd3, Hp3⟩
  ihave Hp3 := (Entails.of_eq (show pay m c 3 = pts xqB c qB (xqC m c) from rfl)) $$ Hp3
  iapply (step_wait (src := rrB) (dst := xqB) m c 4 rfl rfl (0) 1 (above_zero 1) (by decide) (by decide)) $$ [Hc4 HO Ha4]
  · isplitr; · iexact HR
    isplitr; · iexact HL
    isplitl [Hc4]; · iexact Hc4
    isplitl [HO]; · iexact HO
    iexact Ha4
  iintro ⟨HO, Hd4, Hp4⟩
  ihave Hp4 := (Entails.of_eq (show pay m c 4 = pts xqB c qA (xqC m c) from rfl)) $$ Hp4
  iapply (step_wait (src := rrT) (dst := xqT) m c 5 rfl rfl (0) 1 (above_zero 1) (by decide) (by decide)) $$ [Hc5 HO Ha5]
  · isplitr; · iexact HR
    isplitr; · iexact HL
    isplitl [Hc5]; · iexact Hc5
    isplitl [HO]; · iexact HO
    iexact Ha5
  iintro ⟨HO, Hd5, Hp5⟩
  ihave Hp5 := (Entails.of_eq (show pay m c 5 = pts xqT c qB (xqC m c) from rfl)) $$ Hp5
  iapply (step_wait (src := hlM) (dst := rlT) m c 6 rfl rfl (0) 1 (above_zero 1) (by decide) (by decide)) $$ [Hc6 HO Ha6]
  · isplitr; · iexact HR
    isplitr; · iexact HL
    isplitl [Hc6]; · iexact Hc6
    isplitl [HO]; · iexact HO
    iexact Ha6
  iintro ⟨HO, Hd6, Hp6⟩
  ihave Hp6 := (Entails.of_eq (show pay m c 6 = pts rlT c qH (xqC m (prv c)) from rfl)) $$ Hp6
  iapply (step_wait (src := hrM) (dst := rrB) m c 7 rfl rfl (0) 1 (above_zero 1) (by decide) (by decide)) $$ [Hc7 HO Ha7]
  · isplitr; · iexact HR
    isplitr; · iexact HL
    isplitl [Hc7]; · iexact Hc7
    isplitl [HO]; · iexact HO
    iexact Ha7
  iintro ⟨HO, Hd7, Hp7⟩
  ihave Hp7 := (Entails.of_eq (show pay m c 7 = pts rrB c qH (xqC m (nxt c)) from rfl)) $$ Hp7
  iapply (step_ret c _)
  iapply HQ
  isplitl [HO]; · iexact HO
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [Hp2]; · iexact Hp2
  isplitl [Hp3]; · iexact Hp3
  isplitl [Hp4]; · iexact Hp4
  isplitl [Hp5]; · iexact Hp5
  isplitl [Hp6]; · iexact Hp6
  iexact Hp7

end Cert.Gather
-- ==== Proof.Body.lean ====
/-
# The whole body of a device

The ten parts in order, and the five waits for the copies out that end them.
-/
module

public import proofs.«01_k».proof.Proof.Parts
public import proofs.«01_k».proof.Proof.Blocks

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

/-! ## What a device starts from, and what it leaves -/

/-- The positions of the twenty copy semaphores, before the run. -/
def Ats : sProp 𝕄 := iprop(At c 2 ∗ At c 3 ∗ At c 4 ∗ At c 5 ∗ At c 6 ∗ At c 7 ∗ At c 8 ∗ At c 9 ∗ At c 10 ∗ At c 11 ∗ At c 12 ∗ At c 13 ∗ At c 14 ∗ At c 15 ∗ At c 16 ∗ At c 17 ∗ At c 18 ∗ At c 19 ∗ At c 20 ∗ At c 21)
/-- The tokens device `c` pays: those of its own copies and sends, and those of the receives at its neighbours. -/
def Toks : sProp 𝕄 := iprop(Tok c 2 ∗ Tok c 3 ∗ Tok c 4 ∗ Tok c 5 ∗ Tok c 6 ∗ Tok c 7 ∗ Tok c 14 ∗ Tok c 15 ∗ Tok c 16 ∗ Tok c 17 ∗ Tok c 18 ∗ Tok c 19 ∗ Tok c 20 ∗ Tok c 21
  ∗ Tok (nxt c) 8 ∗ Tok (nxt c) 9 ∗ Tok (prv c) 10 ∗ Tok (prv c) 11 ∗ Tok (nxt c) 12 ∗ Tok (prv c) 13)
/-- What it is owed at the start: its six receives. -/
def Creds : sProp 𝕄 := iprop(Cred c 8 ∗ Cred c 9 ∗ Cred c 10 ∗ Cred c 11 ∗ Cred c 12 ∗ Cred c 13)
/-- The copy semaphores at zero, after the run. -/
def Dones : sProp 𝕄 := iprop(Done c 2 ∗ Done c 3 ∗ Done c 4 ∗ Done c 5 ∗ Done c 6 ∗ Done c 7 ∗ Done c 8 ∗ Done c 9 ∗ Done c 10 ∗ Done c 11 ∗ Done c 12 ∗ Done c 13 ∗ Done c 14 ∗ Done c 15 ∗ Done c 16 ∗ Done c 17 ∗ Done c 18 ∗ Done c 19 ∗ Done c 20 ∗ Done c 21)
/-- The barrier: the credit of its two units, its position, and the tokens of one unit to either side. -/
def Bar : sProp 𝕄 := iprop(cred (tallyAt (barCell c) () 2) ∗ atPos ER (barCell c) 0 ∅ 0
  ∗ dutyTok ER (barCell (prv c)) 0 true ∗ dutyTok ER (barCell (nxt c)) 0 false)
/-- The scratch buffers, whatever they hold. -/
def Scr : sProp 𝕄 := iprop((∃ f, pts xfM c fullShare f) ∗ (∃ f, pts wfM c fullShare f) ∗ (∃ f, pts xqM c fullShare f) ∗ (∃ f, pts wqM c fullShare f)
  ∗ (∃ f, pts rlM c fullShare f) ∗ (∃ f, pts rrM c fullShare f) ∗ (∃ f, pts hlM c fullShare f) ∗ (∃ f, pts hrM c fullShare f)
  ∗ ∃ f : Buf (Elt F) ((c : Thread nD τ).loc cc0_scratch8), ((c : Thread nD τ).loc cc0_scratch8) ↦{fullShare} f)
/-- The rows, the columns and the two scales, as the launch has them. -/
def Ins : sProp 𝕄 := iprop(pts aM c fullShare (xC m c) ∗ pts bM c fullShare (wC m c) ∗ pts scM c fullShare (saC m c) ∗ pts tcM c fullShare (sbC m c))

theorem step_bind {α β : Type} {Q : β → sProp (MT nD τ sig Unit (Elt F) ℕ UU ℕ)} (p : Prog (TpuEff nD τ sig (Elt F) Λ₀ .tc) α)
    (k : α → Prog (TpuEff nD τ sig (Elt F) Λ₀ .tc) β) : WP c p (fun x => WP c (k x) Q) ⊢ WP c (p >>= k) Q :=
  Entails.of_eq (wp_bind _ _ _ _ _ _).symm

/-- A half of a buffer of unknown contents is a half of unknown contents. -/
theorem halves_any {sp : Space} {e : EltTy} (M : Memref sig .tc sp S1024x4096 e) :
    iprop(∃ f, pts (F := F) M c fullShare f) ⊢ iprop((∃ f, pts (M.slice topR (fun _ => rfl)) c fullShare f) ∗ ∃ f, pts (M.slice botR (fun _ => rfl)) c fullShare f) := by
  iintro ⟨%f, H⟩
  ihave H := (pts_halves M c fullShare f).1 $$ H
  icases H with ⟨H1, H2⟩
  isplitl [H1]
  · iexists f; iexact H1
  iexists f; iexact H2
theorem out_any : iprop(∃ f, pts (F := F) oM c fullShare f) ⊢ iprop((∃ f, pts (oW0 c) c fullShare f) ∗ (∃ f, pts (oW1 c) c fullShare f)
    ∗ (∃ f, pts (oW2 c) c fullShare f) ∗ (∃ f, pts (oW3 c) c fullShare f) ∗ ∃ f, pts (oW4 c) c fullShare f) := by
  iintro ⟨%f, H⟩
  ihave H := (Entails.of_eq (out_split c f)) $$ H
  icases H with ⟨H0, H1, H2, H3, H4⟩
  isplitl [H0]; · iexists f; iexact H0
  isplitl [H1]; · iexists f; iexact H1
  isplitl [H2]; · iexists f; iexact H2
  isplitl [H3]; · iexists f; iexact H3
  iexists f; iexact H4
theorem stage_any : iprop(∃ f : Buf (Elt F) ((c : Thread nD τ).loc cc0_scratch8), ((c : Thread nD τ).loc cc0_scratch8) ↦{fullShare} f)
    ⊢ (iprop((∃ f, pts sM0 c fullShare f) ∗ (∃ f, pts sM1 c fullShare f) ∗ (∃ f, pts sM2 c fullShare f) ∗ (∃ f, pts sM3 c fullShare f)
      ∗ (∃ f, pts sM4 c fullShare f) ∗ ∃ f, stRest c f) : sProp 𝕄) := by
  iintro ⟨%f, H⟩
  ihave H := (stage_split c f) $$ H
  icases H with ⟨H0, H1, H2, H3, H4, H5⟩
  isplitl [H0]; · iexists f; iexact H0
  isplitl [H1]; · iexists f; iexact H1
  isplitl [H2]; · iexists f; iexact H2
  isplitl [H3]; · iexists f; iexact H3
  isplitl [H4]; · iexists f; iexact H4
  iexists f; iexact H5

/-- The whole body of a device: from its start to its finish, the result `outC` written and everything else as it was. -/
theorem body_run (Q : PUnit → sProp (MT nD τ sig Unit (Elt F) ℕ UU ℕ)) :
    iprop(Recs m ∗ levAts L lv ∗ Owe c (O0 c) ∗ Bar c ∗ Ats c ∗ Toks c ∗ Creds c ∗ Ins m c ∗ (∃ f, pts oM c fullShare f) ∗ Scr c)
      ⊢ iprop(((Owe c 0 ∗ semVal (barCell c) 0 ∗ Dones c ∗ Ins m c ∗ pts oM c fullShare (outC m c) ∗ Scr c) -∗ Q ⟨⟩)
        -∗ WP c (cc0_body aM (Memref.isWhole_whole _) bM (Memref.isWhole_whole _) scM (Memref.isWhole_whole _) tcM (Memref.isWhole_whole _) oM (Memref.isWhole_whole _) xfM (Memref.isWhole_whole _) wfM (Memref.isWhole_whole _) xqM (Memref.isWhole_whole _) wqM (Memref.isWhole_whole _) rlM (Memref.isWhole_whole _) rrM (Memref.isWhole_whole _) hlM (Memref.isWhole_whole _) hrM (Memref.isWhole_whole _) stM (Memref.isWhole_whole _) cc0_scratch9 cc0_scratch10 cc0_scratch11 cc0_scratch12) Q) := by
  rw [cc0_body_eq_skeleton]; unfold cc0_body_skel
  rw [k0_part11_eq_skeleton]; unfold k0_part11_skel
  simp only [Prog.lift, Prog.bind_op, Prog.bind_ret, Prog.pure_eq_ret, Prog.bind_assoc]
  unfold Bar Ats Toks Creds Ins Scr
  iintro ⟨#HR, #HL, HO, ⟨Hcb, Hab, Htp, Htn⟩, ⟨Ha2, Ha3, Ha4, Ha5, Ha6, Ha7, Ha8, Ha9, Ha10, Ha11, Ha12, Ha13, Ha14, Ha15, Ha16, Ha17, Ha18, Ha19, Ha20, Ha21⟩, ⟨Ht2, Ht3, Ht4, Ht5, Ht6, Ht7, Ht14, Ht15, Ht16, Ht17, Ht18, Ht19, Ht20, Ht21, Ht8, Ht9, Ht10, Ht11, Ht12, Ht13⟩, ⟨Hc8, Hc9, Hc10, Hc11, Hc12, Hc13⟩, ⟨Hx, Hw, Hs, Ht⟩, Ho, ⟨Hxf, Hwf, Hxq, Hwq, Hrl, Hrr, Hhl, Hhr, Hst⟩⟩ HQ
  ihave Hx := ((pts_halves aM c fullShare (xC m c)).1) $$ Hx
  icases Hx with ⟨HxT, HxB⟩
  ihave Hxf := (halves_any c xfM) $$ Hxf
  icases Hxf with ⟨HxfT, HxfB⟩
  ihave Hxq := (halves_any c xqM) $$ Hxq
  icases Hxq with ⟨HxqT, HxqB⟩
  ihave Ho := (out_any c) $$ Ho
  icases Ho with ⟨Ho0, Ho1, Ho2, Ho3, Ho4⟩
  ihave Hst := (stage_any c) $$ Hst
  icases Hst with ⟨Hs0, Hs1, Hs2, Hs3, Hs4, Hs5⟩
  iapply (step_bind c _ _)
  iapply (part1 m c _) $$ [HO HxT HxfT Ht19 HxB HxfB Ht20 Hw Hwf Ht21 Hrl Hhl Htp Hrr Hhr Htn Hcb Hab]
  · isplitr; · iexact HR
    isplitr; · iexact HL
    isplitl [HO]; · iexact HO
    isplitl [HxT HxfT Ht19]
    · isplitl [HxT]; · iexact HxT
      isplitl [HxfT]; · iexact HxfT
      iexact Ht19
    isplitl [HxB HxfB Ht20]
    · isplitl [HxB]; · iexact HxB
      isplitl [HxfB]; · iexact HxfB
      iexact Ht20
    isplitl [Hw Hwf Ht21]
    · isplitl [Hw]; · iexact Hw
      isplitl [Hwf]; · iexact Hwf
      iexact Ht21
    isplitl [Hrl Hhl Htp]
    · isplitl [Hrl]; · iexact Hrl
      isplitl [Hhl]; · iexact Hhl
      iexact Htp
    isplitl [Hrr Hhr Htn]
    · isplitl [Hrr]; · iexact Hrr
      isplitl [Hhr]; · iexact Hhr
      iexact Htn
    isplitl [Hcb]; · iexact Hcb
    iexact Hab
  iintro %v2 %v4 %v6 ⟨HO, Hc19, Hc20, Hc21, Hv, HF, HT⟩
  unfold barF barT
  icases HF with ⟨Hrr, Hhr⟩
  icases HT with ⟨Hrl, Hhl⟩
  ihave Hrr := (halves_any (prv c) rrM) $$ Hrr
  icases Hrr with ⟨HrrT, HrrB⟩
  ihave Hrl := (halves_any (nxt c) rlM) $$ Hrl
  icases Hrl with ⟨HrlT, HrlB⟩
  iapply (step_bind c _ _)
  iapply (part2 m c _ v4 v6) $$ [HO Hc19 Ha19 HxqT Ht2 Ht8 HrlT Hc20 Ha20 HxqB]
  · isplitr; · iexact HR
    isplitr; · iexact HL
    isplitl [HO]; · iexact HO
    isplitl [Hc19 Ha19 HxqT]
    · isplitl [Hc19]; · iexact Hc19
      isplitl [Ha19]; · iexact Ha19
      iexact HxqT
    isplitl [Ht2 Ht8 HrlT]
    · isplitl [Ht2]; · iexact Ht2
      isplitl [Ht8]; · iexact Ht8
      iexact HrlT
    isplitl [Hc20]; · iexact Hc20
    isplitl [Ha20]; · iexact Ha20
    iexact HxqB
  iintro ⟨HO, Hd19, Hd20, HxfT, HxT, HxfB, HxB, Hc2, HqT, HqTB, HqB⟩
  iapply (step_bind c _ _)
  iapply (part3 m c _ v4 v6) $$ [HO HqB HqTB Ht4 Ht10 HrrB Ht3 Ht9 HrlB Ht5 Ht11 HrrT Hc21 Ha21 Hwq Hs Ht]
  · isplitr; · iexact HR
    isplitr; · iexact HL
    isplitl [HO]; · iexact HO
    isplitl [HqB]; · iexact HqB
    isplitl [HqTB]; · iexact HqTB
    isplitl [Ht4 Ht10 HrrB]
    · isplitl [Ht4]; · iexact Ht4
      isplitl [Ht10]; · iexact Ht10
      iexact HrrB
    isplitl [Ht3 Ht9 HrlB]
    · isplitl [Ht3]; · iexact Ht3
      isplitl [Ht9]; · iexact Ht9
      iexact HrlB
    isplitl [Ht5 Ht11 HrrT]
    · isplitl [Ht5]; · iexact Ht5
      isplitl [Ht11]; · iexact Ht11
      iexact HrrT
    isplitl [Hc21 Ha21 Hwq]
    · isplitl [Hc21]; · iexact Hc21
      isplitl [Ha21]; · iexact Ha21
      iexact Hwq
    isplitl [Hs]; · iexact Hs
    iexact Ht
  iintro ⟨HO, Hc4, Hc3, Hc5, HqB, Hd21, Hwf, Hw, Hwq, Hs, Ht⟩
  iapply (step_bind c _ _)
  iapply (part4 m c _ v2 v6) $$ [HqT HqB Hwq Hs0 Ho0 Ht14]
  · isplitr; · iexact HR
    isplitl [HqT]; · iexact HqT
    isplitl [HqB]; · iexact HqB
    isplitl [Hwq]; · iexact Hwq
    isplitl [Hs0]; · iexact Hs0
    isplitl [Ho0]; · iexact Ho0
    iexact Ht14
  iintro ⟨Hxq, Hwq, Hc14⟩
  iapply (step_bind c _ _)
  iapply (part5 m c _ v4 v6) $$ [HO Hc8 Ha8 Ht6 Ht12 Hhl Hc10 Ha10 Ht7 Ht13 Hhr]
  · isplitr; · iexact HR
    isplitr; · iexact HL
    isplitl [HO]; · iexact HO
    isplitl [Hc8 Ha8]
    · isplitl [Hc8]; · iexact Hc8
      iexact Ha8
    isplitl [Ht6 Ht12 Hhl]
    · isplitl [Ht6]; · iexact Ht6
      isplitl [Ht12]; · iexact Ht12
      iexact Hhl
    isplitl [Hc10 Ha10]
    · isplitl [Hc10]; · iexact Hc10
      iexact Ha10
    isplitl [Ht7]; · iexact Ht7
    isplitl [Ht13]; · iexact Ht13
    iexact Hhr
  iintro ⟨HO, Hd8, Hd10, Hc6, Hc7, HlT, HrB⟩
  iapply (step_bind c _ _)
  iapply (part6 m c _ v4) $$ [HO Hc9 Ha9 HlT Hwq Hs1 Ho1 Ht15]
  · isplitr; · iexact HR
    isplitr; · iexact HL
    isplitl [HO]; · iexact HO
    isplitl [Hc9 Ha9]
    · isplitl [Hc9]; · iexact Hc9
      iexact Ha9
    isplitl [HlT]; · iexact HlT
    isplitl [Hwq]; · iexact Hwq
    isplitl [Hs1]; · iexact Hs1
    isplitl [Ho1]; · iexact Ho1
    iexact Ht15
  iintro ⟨HO, Hd9, Hl, HlB, Hwq, Hc15⟩
  iapply (step_bind c _ _)
  iapply (part7 m c _ v2 v6) $$ [HO Hc11 Ha11 HrB Hwq Hs2 Ho2 Ht16]
  · isplitr; · iexact HR
    isplitr; · iexact HL
    isplitl [HO]; · iexact HO
    isplitl [Hc11 Ha11]
    · isplitl [Hc11]; · iexact Hc11
      iexact Ha11
    isplitl [HrB]; · iexact HrB
    isplitl [Hwq]; · iexact Hwq
    isplitl [Hs2]; · iexact Hs2
    isplitl [Ho2]; · iexact Ho2
    iexact Ht16
  iintro %v200 %v201 ⟨HO, Hd11, Hr, HrT, Hwq, Hc16⟩
  iapply (step_bind c _ _)
  iapply (part8 m c _ v4 v201) $$ [HO Hc12 Ha12 Hwq Hs3 Ho3 Ht17]
  · isplitr; · iexact HR
    isplitr; · iexact HL
    isplitl [HO]; · iexact HO
    isplitl [Hc12 Ha12]
    · isplitl [Hc12]; · iexact Hc12
      iexact Ha12
    isplitl [Hwq]; · iexact Hwq
    isplitl [Hs3]; · iexact Hs3
    isplitl [Ho3]; · iexact Ho3
    iexact Ht17
  iintro ⟨HO, Hd12, Hhl, Hwq, Hc17⟩
  iapply (step_bind c _ _)
  iapply (part9 m c _ v200) $$ [HO Hc13 Ha13 Hwq Hs4 Ho4 Ht18]
  · isplitr; · iexact HR
    isplitr; · iexact HL
    isplitl [HO]; · iexact HO
    isplitl [Hc13 Ha13]
    · isplitl [Hc13]; · iexact Hc13
      iexact Ha13
    isplitl [Hwq]; · iexact Hwq
    isplitl [Hs4]; · iexact Hs4
    isplitl [Ho4]; · iexact Ho4
    iexact Ht18
  iintro ⟨HO, Hd13, Hhr, Hwq, Hc18⟩
  iapply (step_bind c _ _)
  iapply (part10 m c _) $$ [HO Hc2 Ha2 Hc3 Ha3 Hc4 Ha4 Hc5 Ha5 Hc6 Ha6 Hc7 Ha7]
  · isplitr; · iexact HR
    isplitr; · iexact HL
    isplitl [HO]; · iexact HO
    isplitl [Hc2 Ha2]
    · isplitl [Hc2]; · iexact Hc2
      iexact Ha2
    isplitl [Hc3 Ha3]
    · isplitl [Hc3]; · iexact Hc3
      iexact Ha3
    isplitl [Hc4 Ha4]
    · isplitl [Hc4]; · iexact Hc4
      iexact Ha4
    isplitl [Hc5 Ha5]
    · isplitl [Hc5]; · iexact Hc5
      iexact Ha5
    isplitl [Hc6 Ha6]
    · isplitl [Hc6]; · iexact Hc6
      iexact Ha6
    isplitl [Hc7]; · iexact Hc7
    iexact Ha7
  iintro ⟨HO, Hd2, Hd3, Hd4, Hd5, Hd6, Hd7, Hp2, Hp3, Hp4, Hp5, Hp6, Hp7⟩
  iapply (step_wait (src := sM0) (dst := (oW0 c)) m c 14 rfl rfl (0) 1 (above_zero 1) (by decide) (by decide)) $$ [Hc14 HO Ha14]
  · isplitr; · iexact HR
    isplitr; · iexact HL
    isplitl [Hc14]; · iexact Hc14
    isplitl [HO]; · iexact HO
    iexact Ha14
  iintro ⟨HO, Hd14, Hp14⟩
  ihave Hp14 := (Entails.of_eq (show pay m c 14 = iprop(pts (oW0 c) c fullShare (outC m c) ∗ ∃ f, pts sM0 c fullShare f) from rfl)) $$ Hp14
  icases Hp14 with ⟨Ho0, Hs0⟩
  iapply (step_wait (src := sM1) (dst := (oW1 c)) m c 15 rfl rfl (0) 1 (above_zero 1) (by decide) (by decide)) $$ [Hc15 HO Ha15]
  · isplitr; · iexact HR
    isplitr; · iexact HL
    isplitl [Hc15]; · iexact Hc15
    isplitl [HO]; · iexact HO
    iexact Ha15
  iintro ⟨HO, Hd15, Hp15⟩
  ihave Hp15 := (Entails.of_eq (show pay m c 15 = iprop(pts (oW1 c) c fullShare (outC m c) ∗ ∃ f, pts sM1 c fullShare f) from rfl)) $$ Hp15
  icases Hp15 with ⟨Ho1, Hs1⟩
  iapply (step_wait (src := sM2) (dst := (oW2 c)) m c 16 rfl rfl (0) 1 (above_zero 1) (by decide) (by decide)) $$ [Hc16 HO Ha16]
  · isplitr; · iexact HR
    isplitr; · iexact HL
    isplitl [Hc16]; · iexact Hc16
    isplitl [HO]; · iexact HO
    iexact Ha16
  iintro ⟨HO, Hd16, Hp16⟩
  ihave Hp16 := (Entails.of_eq (show pay m c 16 = iprop(pts (oW2 c) c fullShare (outC m c) ∗ ∃ f, pts sM2 c fullShare f) from rfl)) $$ Hp16
  icases Hp16 with ⟨Ho2, Hs2⟩
  iapply (step_wait (src := sM3) (dst := (oW3 c)) m c 17 rfl rfl (0) 1 (above_zero 1) (by decide) (by decide)) $$ [Hc17 HO Ha17]
  · isplitr; · iexact HR
    isplitr; · iexact HL
    isplitl [Hc17]; · iexact Hc17
    isplitl [HO]; · iexact HO
    iexact Ha17
  iintro ⟨HO, Hd17, Hp17⟩
  ihave Hp17 := (Entails.of_eq (show pay m c 17 = iprop(pts (oW3 c) c fullShare (outC m c) ∗ ∃ f, pts sM3 c fullShare f) from rfl)) $$ Hp17
  icases Hp17 with ⟨Ho3, Hs3⟩
  iapply (step_wait (src := sM4) (dst := (oW4 c)) m c 18 rfl rfl (0) 1 (above_zero 1) (by decide) (by decide)) $$ [Hc18 HO Ha18]
  · isplitr; · iexact HR
    isplitr; · iexact HL
    isplitl [Hc18]; · iexact Hc18
    isplitl [HO]; · iexact HO
    iexact Ha18
  iintro ⟨HO, Hd18, Hp18⟩
  ihave Hp18 := (Entails.of_eq (show pay m c 18 = iprop(pts (oW4 c) c fullShare (outC m c) ∗ ∃ f, pts sM4 c fullShare f) from rfl)) $$ Hp18
  icases Hp18 with ⟨Ho4, Hs4⟩
  iapply (step_ret c _)
  ihave Ho := (Entails.of_eq (out_split c (outC m c)).symm) $$ [Ho0 Ho1 Ho2 Ho3 Ho4]
  · isplitl [Ho0]; · iexact Ho0
    isplitl [Ho1]; · iexact Ho1
    isplitl [Ho2]; · iexact Ho2
    isplitl [Ho3]; · iexact Ho3
    iexact Ho4
  ihave Hst := (stage_join c) $$ [Hs0 Hs1 Hs2 Hs3 Hs4 Hs5]
  · isplitl [Hs0]; · iexact Hs0
    isplitl [Hs1]; · iexact Hs1
    isplitl [Hs2]; · iexact Hs2
    isplitl [Hs3]; · iexact Hs3
    isplitl [Hs4]; · iexact Hs4
    iexact Hs5
  ihave Hx := ((pts_halves aM c fullShare (xC m c)).2) $$ [HxT HxB]
  · isplitl [HxT]; · iexact HxT
    iexact HxB
  ihave Hxf := ((pts_halves xfM c fullShare (xC m c)).2) $$ [HxfT HxfB]
  · isplitl [HxfT]; · iexact HxfT
    iexact HxfB
  ihave HqT := ((pts_lend xqT c (xqC m c)).2) $$ [Hp2 Hp5]
  · isplitl [Hp2]; · iexact Hp2
    iexact Hp5
  ihave HqB := ((pts_lend xqB c (xqC m c)).2) $$ [Hp4 Hp3]
  · isplitl [Hp4]; · iexact Hp4
    iexact Hp3
  ihave Hq := ((pts_halves xqM c qH (xqC m c)).2) $$ [HqT HqB]
  · isplitl [HqT]; · iexact HqT
    iexact HqB
  ihave Hxq := ((pts_keep xqM c (xqC m c)).2) $$ [Hxq Hq]
  · isplitl [Hxq]; · iexact Hxq
    iexact Hq
  ihave Hlh := ((pts_halves rlM c qH (xqC m (prv c))).2) $$ [Hp6 HlB]
  · isplitl [Hp6]; · iexact Hp6
    iexact HlB
  ihave Hl := ((pts_keep rlM c (xqC m (prv c))).2) $$ [Hl Hlh]
  · isplitl [Hl]; · iexact Hl
    iexact Hlh
  ihave Hrh := ((pts_halves rrM c qH (xqC m (nxt c))).2) $$ [HrT Hp7]
  · isplitl [HrT]; · iexact HrT
    iexact Hp7
  ihave Hr := ((pts_keep rrM c (xqC m (nxt c))).2) $$ [Hr Hrh]
  · isplitl [Hr]; · iexact Hr
    iexact Hrh
  iapply HQ
  unfold Dones
  isplitl [HO]; · iexact HO
  isplitl [Hv]; · iexact Hv
  isplitl [Hd2 Hd3 Hd4 Hd5 Hd6 Hd7 Hd8 Hd9 Hd10 Hd11 Hd12 Hd13 Hd14 Hd15 Hd16 Hd17 Hd18 Hd19 Hd20 Hd21]
  · isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    iexact Hd21
  isplitl [Hx Hw Hs Ht]
  · isplitl [Hx]; · iexact Hx
    isplitl [Hw]; · iexact Hw
    isplitl [Hs]; · iexact Hs
    iexact Ht
  isplitl [Ho]; · iexact Ho
  isplitl [Hxf]; · iexists _; iexact Hxf
  isplitl [Hwf]; · iexists _; iexact Hwf
  isplitl [Hxq]; · iexists _; iexact Hxq
  isplitl [Hwq]; · iexists _; iexact Hwq
  isplitl [Hl]; · iexists _; iexact Hl
  isplitl [Hr]; · iexists _; iexact Hr
  isplitl [Hhl]; · iexists _; iexact Hhl
  isplitl [Hhr]; · iexists _; iexact Hhr
  iexact Hst

end Cert.Gather
-- ==== Proof.Setup.lean ====
/-
# The body as the region's obligation

What the region brings into a device's body and what it takes out of it, and that the body leads from
the one to the other.
-/
module

public import proofs.«01_k».proof.Proof.Body

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the region's body is given and what it leaves -/

/-- The result array as the launch finds it and the two arguments that the body copies itself. -/
def Hbm (c : Dev nD) (f : Vec F S4096x512 .f32) : sProp 𝕄 :=
  iprop((((c : Thread nD τ).loc main_arg0) ↦{fullShare} (xC m c : Buf (Elt F) ((c : Thread nD τ).loc main_arg0)))
    ∗ (((c : Thread nD τ).loc main_arg1) ↦{fullShare} (wC m c : Buf (Elt F) ((c : Thread nD τ).loc main_arg1)))
    ∗ (((c : Thread nD τ).loc main_v1) ↦{fullShare} (f : Buf (Elt F) ((c : Thread nD τ).loc main_v1))))

/-- The scratch buffers, whatever they hold, as the launch has them. -/
def ScrB (c : Dev nD) : sProp 𝕄 := Pipeline.scopedRest cfg0.spec c

theorem hbm_eq (c : Dev nD) (f : Vec F S4096x512 .f32) :
    Hbm m c f = iprop(pts aM c fullShare (xC m c) ∗ pts bM c fullShare (wC m c) ∗ pts oM c fullShare f) := by
  unfold Hbm; rw [pts_whole, pts_whole, pts_whole]

theorem scr_eq (c : Dev nD) : (ScrB c : sProp 𝕄) = Scr (F := F) c := by
  unfold ScrB Scr
  rw [scopedRest0_eq]
  simp only [pts_whole]

/-- What a device brings into its body besides the staged scales. -/
def Start (c : Dev nD) : sProp 𝕄 :=
  iprop(Recs m ∗ levAts L lv ∗ Bar c ∗ Ats c ∗ Toks c ∗ Creds c ∗ Hbm m c (m ((c : Thread nD τ).loc main_v1)))
def Phi0 (c : Dev nD) : sProp 𝕄 := iprop(Start m c ∗ ScrB c)
/-- What a device leaves: the barrier at zero, its arrays with the result in place, every copy's semaphore at zero. -/
def Left (c : Dev nD) : sProp 𝕄 := iprop(semVal (barCell c) 0 ∗ Hbm m c (outC m c))
def Phi1 (c : Dev nD) : sProp 𝕄 := iprop(Left m c ∗ Dones c ∗ ScrB c)

/-- The pipeline's data: two scales fetched into their staging buffers, nothing written back. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => saC m c
    | ⟨1, _⟩ => sbC m c
  Φ t := match t with
    | ⟨0, _⟩ => Phi0 m c
    | ⟨_ + 1, _⟩ => Phi1 m c
  q _ := fullShare
  owed t := match t with
    | ⟨0, _⟩ => O0 c
    | ⟨_ + 1, _⟩ => 0

theorem share_full (c : Dev nD) (w : Fin cfg0.W) : (dats (F := F) m ρ 0 c).share w = fullShare := by
  unfold Dat.share; split <;> rfl

theorem fetched_now (w : Fin 2) : (cfg0.win w).fetch t0_0 = true := by fin_cases w <;> rfl

/-- A staging buffer owned whole, its contents those of `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

/-- What the body's goal has before the body and after it. -/
def before (c : Dev nD) : sProp 𝕄 :=
  iprop(Phi0 m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def after (c : Dev nD) : sProp 𝕄 :=
  iprop(Phi1 m c ∗ (dats m ρ 0 c).owesAt () t0_0.succ ∗ stg c cc0_stg0_0 (saC m c) ∗ stg c cc0_stg1_0 (sbC m c))

/-- The staged scales are the arguments. -/
theorem before_0 (c : Dev nD) (d) : (dats m ρ 0 c).before (0 : Fin 2) t0_0 d = saC m c := by
  unfold Dat.before; rw [if_pos (fetched_now 0)]; unfold Dat.fetched Dat.blockOf; dsimp only [dats]
  funext i; exact congrArg (saC m c) ((idx1 _).trans (idx1 _).symm)
theorem before_1 (c : Dev nD) (d) : (dats m ρ 0 c).before (1 : Fin 2) t0_0 d = sbC m c := by
  unfold Dat.before; rw [if_pos (fetched_now 1)]; unfold Dat.fetched Dat.blockOf; dsimp only [dats]
  funext i; exact congrArg (sbC m c) ((idx1 _).trans (idx1 _).symm)

theorem owe_in (c : Dev nD) : (dats (F := F) m ρ 0 c).owesAt () t0_0.castSucc ⊢ Owe c (O0 c) := by
  unfold Dat.owesAt Pipeline.owesWithin Owe
  rw [show (dats (F := F) m ρ 0 c).owed t0_0.castSucc = O0 c from rfl]
  iintro ⟨%W, -, H⟩
  iexists W; iexact H
theorem owe_out (c : Dev nD) : Owe c 0 ⊢ (dats (F := F) m ρ 0 c).owesAt () t0_0.succ := by
  unfold Dat.owesAt Pipeline.owesWithin Owe
  rw [show (dats (F := F) m ρ 0 c).owed t0_0.succ = 0 from rfl]
  iintro ⟨%W, H⟩
  iexists W
  isplitr; · ipureintro; exact fun _ _ => Or.inl trivial
  iexact H

theorem before_open (c : Dev nD) : before m ρ c ⊢ iprop(Phi0 m c ∗ Owe c (O0 c) ∗ pts scM c fullShare (saC m c) ∗ pts tcM c fullShare (sbC m c)) := by
  unfold before
  iintro ⟨HP, HO, ⟨%d, %f, %hf, Hs⟩, ⟨%e, %g, %hg, Ht⟩⟩
  rw [before_0] at hf
  rw [before_1] at hg
  subst hf; subst hg
  isplitl [HP]; · iexact HP
  isplitl [HO]; · iapply (owe_in m ρ c); iexact HO
  isplitl [Hs]
  · rw [pts_whole]; iexact Hs
  · rw [pts_whole]; iexact Ht

theorem after_close (c : Dev nD) : iprop(Phi1 m c ∗ Owe c 0 ∗ pts scM c fullShare (saC m c) ∗ pts tcM c fullShare (sbC m c)) ⊢ after m ρ c := by
  unfold after
  iintro ⟨HP, HO, Hs, Ht⟩
  isplitl [HP]; · iexact HP
  isplitl [HO]; · iapply (owe_out m ρ c); iexact HO
  isplitl [Hs]
  · iexists (saC m c); isplitr; · ipureintro; rfl
    iapply (Entails.of_eq (pts_whole (F := F) cc0_stg0_0 c fullShare (saC m c))); iexact Hs
  · iexists (sbC m c); isplitr; · ipureintro; rfl
    iapply (Entails.of_eq (pts_whole (F := F) cc0_stg1_0 c fullShare (sbC m c))); iexact Ht

/-- The body from what the region brings to what the region expects. -/
theorem body_meets (c : Dev nD) :
    before m ρ c ⊢ WP c (cc0_body aM (Memref.isWhole_whole _) bM (Memref.isWhole_whole _) scM (Memref.isWhole_whole _) tcM (Memref.isWhole_whole _) oM (Memref.isWhole_whole _) xfM (Memref.isWhole_whole _) wfM (Memref.isWhole_whole _) xqM (Memref.isWhole_whole _) wqM (Memref.isWhole_whole _) rlM (Memref.isWhole_whole _) rrM (Memref.isWhole_whole _) hlM (Memref.isWhole_whole _) hrM (Memref.isWhole_whole _) stM (Memref.isWhole_whole _) cc0_scratch9 cc0_scratch10 cc0_scratch11 cc0_scratch12) (fun _ => after m ρ c) := by
  refine (before_open m ρ c).trans ?_
  unfold Phi0 Start
  rw [hbm_eq, scr_eq]
  iintro ⟨⟨⟨#HR, #HL, HB, HA, HT, HC, Hx, Hw, Ho⟩, HS⟩, HO, Hs, Ht⟩
  iapply (body_run m c (fun _ => after m ρ c)) $$ [HB HA HT HC Hx Hw Ho HS HO Hs Ht]
  · unfold Ins
    isplitr; · iexact HR
    isplitr; · iexact HL
    isplitl [HO]; · iexact HO
    isplitl [HB]; · iexact HB
    isplitl [HA]; · iexact HA
    isplitl [HT]; · iexact HT
    isplitl [HC]; · iexact HC
    isplitl [Hx Hw Hs Ht]
    · isplitl [Hx]; · iexact Hx
      isplitl [Hw]; · iexact Hw
      isplitl [Hs]; · iexact Hs
      iexact Ht
    isplitl [Ho]; · iexists _; iexact Ho
    iexact HS
  unfold Ins
  iintro ⟨HO, Hb, HD, ⟨Hx, Hw, Hs, Ht⟩, Ho, HS⟩
  iapply (after_close m ρ c)
  unfold Phi1 Left
  rw [hbm_eq, scr_eq]
  isplitl [Hb Hx Hw Ho HD HS]
  · isplitl [Hb Hx Hw Ho]
    · isplitl [Hb]; · iexact Hb
      isplitl [Hx]; · iexact Hx
      isplitl [Hw]; · iexact Hw
      iexact Ho
    isplitl [HD]; · iexact HD
    iexact HS
  isplitl [HO]; · iexact HO
  isplitl [Hs]; · iexact Hs
  iexact Ht

set_option maxRecDepth 4000 in
/-- The region's obligation for the body. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  exact body_meets m ρ c

end Cert.Gather
-- ==== Proof.Launch.lean ====
/-
# The launch and the run of the whole program

The semaphores put under the plan, the tokens handed round the ring, and the run of the program on the four
devices: it terminates, and what it leaves in memory.
-/
module

public import proofs.«01_k».proof.Proof.Setup
public import Idealize.ShloMosaic.Lib.Pipeline.CollectiveSegs
public import Idealize.ShloMosaic.Lib.Quiescent

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores and the tokens of the launch -/

theorem ownSemFacts : Pipeline.OwnSemFacts cfg0.spec osem := by decide

theorem kcell_injective : Function.Injective (kcell : Dev nD × KIx → GSem nD τ sig) := by
  rintro ⟨c, k⟩ ⟨c', k'⟩ h
  have h1 : c = c' := congrArg (fun g : GSem nD τ sig => g.1.1) h
  have h2 : ksem k = ksem k' := congrArg Prod.snd h
  have key : ∀ k k' : KIx, ksem k = ksem k' → k = k' := by decide
  rw [h1, key k k' h2]

/-- All semaphores of the exchange. -/
def allCells : Finset (GSem nD τ sig) := Finset.univ.map ⟨kcell, kcell_injective⟩

/-- The duties of one device's semaphores: two of its barrier, one of each copy. -/
def duty (j : Fin 22) : SemLoc sig × Bool := match j.val with
  | 0 => (.reg barS, false)
  | 1 => (.reg barS, true)
  | _ => (.dma j, false)
def tokOf (cj : Dev nD × Fin 22) : GSem nD τ sig × ℕ × Bool := (((cj.1 : Thread nD τ), (duty cj.2).1), 0, (duty cj.2).2)

theorem tokOf_injective : Function.Injective tokOf := by
  rintro ⟨c, j⟩ ⟨c', j'⟩ h
  have h1 : c = c' := congrArg (fun x : GSem nD τ sig × ℕ × Bool => x.1.1.1) h
  have h2 : duty j = duty j' := congrArg (fun x : GSem nD τ sig × ℕ × Bool => (x.1.2, x.2.2)) h
  have key : ∀ j j' : Fin 22, duty j = duty j' → j = j' := by decide
  rw [h1, key j j' h2]

/-- All duty tokens of the exchange. -/
def allToks : Finset (GSem nD τ sig × ℕ × Bool) := Finset.univ.map ⟨tokOf, tokOf_injective⟩

/-- The element that the launch starts from: the pipeline's part and the exchange's. -/
def u₀ : UU :=
  (initOf (Pipeline.cells cfgs cellOf_inj) (Pipeline.launchToks cfgs cellOf_inj), initOf allCells allToks)

/-- The duty tokens of device `c`'s own semaphores. -/
def Own (c : Dev nD) : sProp 𝕄 :=
  iprop(dutyTok ER (barCell c) 0 false ∗ dutyTok ER (barCell c) 0 true ∗ Tok c 2 ∗ Tok c 3 ∗ Tok c 4 ∗ Tok c 5 ∗ Tok c 6 ∗ Tok c 7 ∗ Tok c 8 ∗ Tok c 9 ∗ Tok c 10 ∗ Tok c 11 ∗ Tok c 12 ∗ Tok c 13 ∗ Tok c 14 ∗ Tok c 15 ∗ Tok c 16 ∗ Tok c 17 ∗ Tok c 18 ∗ Tok c 19 ∗ Tok c 20 ∗ Tok c 21)

theorem own_eq (c : Dev nD) :
    (bigSep Finset.univ fun j : Fin 22 => (dutyTok ER (tokOf (c, j)).1 (tokOf (c, j)).2.1 (tokOf (c, j)).2.2 : sProp 𝕄)) = Own c :=
  bigSep_univ_eq_bigSepL [0, 1, 2, 3, 4, 5, 6, 7, 8, 9, 10, 11, 12, 13, 14, 15, 16, 17, 18, 19, 20, 21] (by decide) (by decide) _

/-- What the launch element deals to device `c`. -/
def G (c : Dev nD) : sProp 𝕄 :=
  iprop((bigSep Finset.univ fun k : KIx => roundState ER (Rd m) (kcell (c, k)) 0)
    ∗ (bigSep Finset.univ fun k : KIx => reached ER (kcell (c, k)) 0)
    ∗ (bigSep Finset.univ fun k : KIx => atPos ER (kcell (c, k)) 0 ∅ 0) ∗ Own c)

/-- What the devices make of it together: the shared records, and each device's positions and tokens. -/
def G' (c : Dev nD) : sProp 𝕄 :=
  iprop(Recs m ∗ (atPos ER (barCell c) 0 ∅ 0 ∗ Ats c) ∗ (dutyTok ER (barCell (prv c)) 0 true ∗ dutyTok ER (barCell (nxt c)) 0 false) ∗ Toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : KIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => Own c := by
    unfold allToks; rw [bigSep_map, bigSep_univ_prod]
    exact bigSep_congr fun c _ => own_eq c
  iintro H
  imod (Rounds.fund ER (Rd m) allCells allToks) $$ H with ⟨Hst, Hr, Hat, Ht⟩
  imodintro
  unfold G; simp only [bigSep_sep']
  isplitl [Hst]; · iapply (Entails.of_eq (hX fun g => roundState ER (Rd m) g 0)); iexact Hst
  isplitl [Hr]; · iapply (Entails.of_eq (hX fun g => reached ER g 0)); iexact Hr
  isplitl [Hat]; · iapply (Entails.of_eq (hX fun g => atPos ER g 0 ∅ 0)); iexact Hat
  iapply (Entails.of_eq hT); iexact Ht

theorem sum_k (Φ : KIx → sProp 𝕄) : bigSep Finset.univ Φ = bigSepL [none, some 0, some 1, some 2, some 3, some 4, some 5, some 6, some 7, some 8, some 9, some 10, some 11, some 12, some 13, some 14, some 15, some 16, some 17, some 18, some 19] Φ :=
  bigSep_univ_eq_bigSepL _ (by decide) (by decide) Φ

theorem own_sems (c : Dev nD) : (Pipeline.ownSems0 (Ix := Unit) (Name := ℕ) (U := UU) (Lvl := ℕ) (Val := Elt F) (τ := τ) osem c : sProp 𝕄) = Dones c :=
  Pipeline.ownSems0_eq_of_list c osem [0, 1, 2, 3, 4, 5, 6, 7, 8, 9, 10, 11, 12, 13, 14, 15, 16, 17, 18, 19] (by decide) (by decide)
theorem other_sems (c : Dev nD) : (unscopedSems0 c : sProp 𝕄) = semVal (barCell c) 0 := by
  unfold unscopedSems0; rw [bigSep_eq_bigSepL_of_eq [SemLoc.reg barS] (by decide) (by decide)]; rfl

theorem sems_all (c : Dev nD) : iprop(semVal (barCell c) 0 ∗ Dones c) = (bigSep Finset.univ fun k : KIx => semVal (kcell (c, k)) 0 : sProp 𝕄) := by
  rw [sum_k]; rfl
theorem ats_all (c : Dev nD) : (bigSep Finset.univ fun k : KIx => (atPos ER (kcell (c, k)) 0 ∅ 0 : sProp 𝕄)) = iprop(atPos ER (barCell c) 0 ∅ 0 ∗ Ats c) := by
  rw [sum_k]; rfl

/-- One device's semaphores put under the plan. -/
theorem put_under (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KIx => iprop(∃ κ : ℕ, cellInv ER (Rd m) κ (kcell (c, k))))
          ∗ (bigSep Finset.univ fun k : KIx => reached ER (kcell (c, k)) 0) ∗ (atPos ER (barCell c) 0 ∅ 0 ∗ Ats c) ∗ Own c) := by
  unfold G
  rw [own_sems, other_sems, ats_all]
  iintro ⟨Hd, Hb, Hst, Hr, Hat, Ht⟩
  ihave Hv := (Entails.of_eq (sems_all (F := F) c)) $$ [Hd Hb]
  · isplitl [Hb]; · iexact Hb
    iexact Hd
  imod (show iprop((bigSep Finset.univ fun k : KIx => semVal (kcell (c, k)) 0) ∗ bigSep Finset.univ fun k : KIx => roundState ER (Rd m) (kcell (c, k)) 0)
      ⊢ (|={Set.univ}=> bigSep Finset.univ fun k : KIx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hat]; · iexact Hat
  iexact Ht

/-- The tokens handed round the ring, each to the device that pays its duty. -/
theorem hand_round : (bigSep Finset.univ fun c : Dev nD => (Own c : sProp 𝕄))
    ⊢ bigSep Finset.univ fun c : Dev nD => iprop((dutyTok ER (barCell (prv c)) 0 true ∗ dutyTok ER (barCell (nxt c)) 0 false) ∗ Toks c) := by
  unfold Own Toks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (Tok c 8 : sProp 𝕄)), bigSep_univ_equiv ring (fun c : Dev nD => (Tok c 9 : sProp 𝕄)),
    bigSep_univ_equiv ring.symm (fun c : Dev nD => (Tok c 10 : sProp 𝕄)), bigSep_univ_equiv ring.symm (fun c : Dev nD => (Tok c 11 : sProp 𝕄)),
    bigSep_univ_equiv ring (fun c : Dev nD => (Tok c 12 : sProp 𝕄)), bigSep_univ_equiv ring.symm (fun c : Dev nD => (Tok c 13 : sProp 𝕄))]
  iintro ⟨Hb0, Hb1, H2, H3, H4, H5, H6, H7, H8, H9, H10, H11, H12, H13, H14, H15, H16, H17, H18, H19, H20, H21⟩
  isplitl [Hb0 Hb1]
  · isplitl [Hb1]; · iexact Hb1
    iexact Hb0
  isplitl [H2]; · iexact H2
  isplitl [H3]; · iexact H3
  isplitl [H4]; · iexact H4
  isplitl [H5]; · iexact H5
  isplitl [H6]; · iexact H6
  isplitl [H7]; · iexact H7
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H8]; · iexact H8
  isplitl [H9]; · iexact H9
  isplitl [H10]; · iexact H10
  isplitl [H11]; · iexact H11
  isplitl [H12]; · iexact H12
  iexact H13

/-- A fact that may be used again and again, beside each of a family. -/
theorem beside {I : Type} [DecidableEq I] (S : Finset I) (R : sProp (MT nD τ sig Unit (Elt F) ℕ UU ℕ)) [BI.Persistent R] (Φ : I → sProp (MT nD τ sig Unit (Elt F) ℕ UU ℕ)) :
    iprop(R ∗ bigSep S Φ) ⊢ bigSep S fun i => iprop(R ∗ Φ i) := by
  rw [bigSep_sep']
  exact sep_mono_left (BI.bigSep_of_persistent S R)

theorem regroup :
    (bigSep Finset.univ fun c : Dev nD => iprop((bigSep Finset.univ fun k : KIx => iprop(∃ κ : ℕ, cellInv ER (Rd m) κ (kcell (c, k))))
          ∗ (bigSep Finset.univ fun k : KIx => reached ER (kcell (c, k)) 0) ∗ (atPos ER (barCell c) 0 ∅ 0 ∗ Ats c) ∗ Own c) : sProp 𝕄)
      ⊢ bigSep Finset.univ (G' m) := by
  rw [bigSep_sep', bigSep_sep', bigSep_sep' _ (fun c : Dev nD => iprop(atPos ER (barCell c) 0 ∅ 0 ∗ Ats c)),
    ← bigSep_univ_prod (fun ck : Dev nD × KIx => iprop(∃ κ : ℕ, cellInv ER (Rd m) κ (kcell ck))),
    ← bigSep_univ_prod (fun ck : Dev nD × KIx => (reached ER (kcell ck) 0 : sProp 𝕄))]
  iintro ⟨HI, HR, Ha, Ho⟩
  ihave Ht := (hand_round (F := F)) $$ Ho
  ihave Hrec := (Entails.of_eq (show iprop(bigSep Finset.univ (fun ck : Dev nD × KIx => iprop(∃ κ : ℕ, cellInv ER (Rd m) κ (kcell ck)))
      ∗ bigSep Finset.univ (fun ck : Dev nD × KIx => (reached ER (kcell ck) 0 : sProp 𝕄))) = Recs m from (bigSep_sep' _ _ _).symm)) $$ [HI HR]
  · isplitl [HI]; · iexact HI
    iexact HR
  unfold G'
  iapply (beside Finset.univ (Recs m) (fun c : Dev nD => iprop((atPos ER (barCell c) 0 ∅ 0 ∗ Ats c) ∗ (dutyTok ER (barCell (prv c)) 0 true ∗ dutyTok ER (barCell (nxt c)) 0 false) ∗ Toks c)))
  isplitl [Hrec]; · iexact Hrec
  iapply (Entails.of_eq (bigSep_sep' _ (fun c : Dev nD => iprop(atPos ER (barCell c) 0 ∅ 0 ∗ Ats c)) _).symm)
  isplitl [Ha]; · iexact Ha
  iexact Ht

/-- All devices' semaphores put under the plan at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => put_under m c).trans (bigSep_fupd _ _)).trans (BI.fupd_mono (regroup m))

/-! ## The credits of the launch -/

theorem cred_half (c : Dev nD) (q : DmaSem sig) (h : q.val < 14) : (cred (tallyAt (dCell c q) () NH) : sProp 𝕄) = Cred c q := by
  unfold Cred amt; rw [if_pos h]

/-- What the neighbours owe device `c` at the launch. -/
theorem creds (c : Dev nD) : (Pipeline.launchCred O0 c : sProp 𝕄) ⊢ iprop(cred (tallyAt (barCell c) () 2) ∗ Creds c) := by
  have up (sm : SemLoc sig) (n : ℕ) := Pipeline.launchCred_tallyAt (nD := nD) (τ := τ) (sig := sig) (Val := Elt F) (Name := ℕ) (U := UU) (Lvl := ℕ) sm nxt prv nxt_prv prv_nxt () n c
  have dn (sm : SemLoc sig) (n : ℕ) := Pipeline.launchCred_tallyAt (nD := nD) (τ := τ) (sig := sig) (Val := Elt F) (Name := ℕ) (U := UU) (Lvl := ℕ) sm prv nxt prv_nxt nxt_prv () n c
  have e : (O0 : Dev nD → CellTallies nD τ sig Unit) = fun d => (((((((((0 : CellTallies nD τ sig Unit) + tallyAt (dCell (prv d) 13) () NH) + tallyAt (dCell (nxt d) 12) () NH)
      + tallyAt (dCell (prv d) 11) () NH) + tallyAt (dCell (nxt d) 9) () NH) + tallyAt (dCell (prv d) 10) () NH) + tallyAt (dCell (nxt d) 8) () NH)
      + tallyAt (barCell (nxt d)) () 1) + tallyAt (barCell (prv d)) () 1) := rfl
  rw [e]
  simp only [Pipeline.launchCred_add]
  unfold Creds
  iintro ⟨⟨⟨⟨⟨⟨⟨⟨-, H13⟩, H12⟩, H11⟩, H9⟩, H10⟩, H8⟩, Hn⟩, Hp⟩
  isplitl [Hn Hp]
  · ihave Hn' := (up (.reg barS) 1) $$ Hn
    ihave Hp' := (dn (.reg barS) 1) $$ Hp
    iapply (Entails.of_eq (congrArg cred (show tallyAt (barCell c) () 1 + tallyAt (barCell c) () 1 = (tallyAt (barCell c) () 2 : CellTallies nD τ sig Unit) from tallyAt_add (barCell c) () 1 1)))
    iapply (cred_add _ _).2
    isplitl [Hn']; · iexact Hn'
    iexact Hp'
  isplitl [H8]; · iapply (Entails.of_eq (cred_half (F := F) c 8 (by decide))); iapply (up (.dma 8) NH); iexact H8
  isplitl [H9]; · iapply (Entails.of_eq (cred_half (F := F) c 9 (by decide))); iapply (up (.dma 9) NH); iexact H9
  isplitl [H10]; · iapply (Entails.of_eq (cred_half (F := F) c 10 (by decide))); iapply (dn (.dma 10) NH); iexact H10
  isplitl [H11]; · iapply (Entails.of_eq (cred_half (F := F) c 11 (by decide))); iapply (dn (.dma 11) NH); iexact H11
  isplitl [H12]; · iapply (Entails.of_eq (cred_half (F := F) c 12 (by decide))); iapply (up (.dma 12) NH); iexact H12
  iapply (Entails.of_eq (cred_half (F := F) c 13 (by decide))); iapply (dn (.dma 13) NH); iexact H13

/-! ## The launch's side conditions -/

theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' m c)
      ⊢ |={Set.univ}=> iprop(Start m c ∗ emp) := by
  rw [Pipeline.unscopedRestP_none, unscopedRest0_eq]
  unfold G' Start Bar Hbm
  iintro ⟨HM, HL, Hcr, -, HR, ⟨Hb, HA⟩, ⟨Ht1, Ht2⟩, HT⟩
  ihave Hc := (creds (F := F) c) $$ Hcr
  icases Hc with ⟨Hc, HC⟩
  imodintro
  isplitl
  · isplitl [HR]; · iexact HR
    isplitl [HL]; · iexact HL
    isplitl [Hc Hb Ht1 Ht2]
    · isplitl [Hc]; · iexact Hc
      isplitl [Hb]; · iexact Hb
      isplitl [Ht1]; · iexact Ht1
      iexact Ht2
    isplitl [HA]; · iexact HA
    isplitl [HT]; · iexact HT
    isplitl [HC]; · iexact HC
    iexact HM
  · iempintro

theorem phi_in (c : Dev nD) :
    iprop(Start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Phi0 m c from rfl]
  unfold Phi0 ScrB
  iintro ⟨Hs, -, Hr⟩
  isplitl [Hs]; · iexact Hs
  iexact Hr

theorem phi_out (c : Dev nD) :
    (dats m ρ 0 c).Φ (Fin.last cfg0.N) ⊢ iprop(Left m c ∗ Pipeline.ownSems0 osem c ∗ Pipeline.scopedRest cfg0.spec c) := by
  rw [show (dats m ρ 0 c).Φ (Fin.last cfg0.N) = Phi1 m c from rfl, own_sems]
  unfold Phi1 ScrB
  exact Entails.of_eq rfl

theorem waits (c : Dev nD) : (levAts L lv : sProp 𝕄) ⊢ Pipeline.cellsWaits cfgs (dats m ρ) () 0 c :=
  Pipeline.cellsWaits_intro cfgs (dats m ρ) () 0 c fun w s t =>
    mayWait c _ (n := 1) (by
      rcases t with ⟨_ | _, ht⟩
      · exact above0 c
      · exact above_zero 1) (by fin_cases w <;> fin_cases s <;> decide)

/-! ## The run -/

/-- What is read of device `c`'s memory at the end besides the scales: the copied arguments as they were, the result, and the
    counters that outlive the region. -/
def Reads (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = outC m c) ∧ ∀ sm : SemLoc sig, sm.isScoped .tc = false → s.sem ((c.tc : Thread nD τ), sm) = 0

theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) (I := Unit) {()} (fun _ => ℓ) (fun _ => f) s'
  rw [bigSep_singleton] at h
  refine h.trans ?_
  iintro ⟨%h, H⟩
  isplitr; · ipureintro; exact h () (Finset.mem_singleton_self _)
  iexact H

theorem reads (c : Dev nD) (s' : Phys nD τ sig (Elt F)) :
    iprop(Left m c ∗ emp ∗ SI s') ⊢ |={Set.univ}=> iprop(⌜Reads m c s'.mem⌝ ∗ SI s' : sProp 𝕄) := by
  unfold Left Hbm
  iintro ⟨⟨Hb, H0, H1, H2⟩, -, HS⟩
  ihave H := (read_one _ _ s') $$ [H0 HS]
  · isplitl [H0]; · iexact H0
    iexact HS
  icases H with ⟨%h0, HS⟩
  ihave H := (read_one _ _ s') $$ [H1 HS]
  · isplitl [H1]; · iexact H1
    iexact HS
  icases H with ⟨%h1, HS⟩
  ihave H := (read_one _ _ s') $$ [H2 HS]
  · isplitl [H2]; · iexact H2
    iexact HS
  icases H with ⟨%h2, HS⟩
  imod (Pipeline.unscopedSems0_read (X := unscopedSems0 c) (c := c) fupd_intro s') $$ [Hb HS] with ⟨%h3, HS⟩
  · isplitl [Hb]; · iapply (Entails.of_eq (other_sems (F := F) c).symm); iexact Hb
    iexact HS
  imodintro
  isplitr; · ipureintro; exact ⟨⟨h0, h1, h2⟩, h3⟩
  iexact HS

/-- What the run of all devices leaves: the four arguments as they were, and every device's columns of the result. -/
def Final (s : MemSt nD τ sig (Elt F)) : Prop := ∀ c : Dev nD,
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_v1) = outC m c

set_option maxRecDepth 8000 in
/-- The program on the four devices, over any float values and from any memory with zero counters: every fair
    execution terminates, and leaves the arguments as they were, every counter at zero, and on each device its
    columns of the result. -/
theorem run_main : θ_run defs (onTc (τ := τ) (main (F := F))) ⟨m, fun _ => 0, ρ⟩ (fun r => Final m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := Start m) (Y := Left m) (Z := fun _ => iprop(emp))
    (hX := start_intro m ρ) (hin := phi_in m ρ) (hout := phi_out m ρ)
    (QY := Reads m) (hY := reads m)
    (hQ := fun s h hs => ⟨fun c =>
      ⟨(h c).2.2.1.1, (h c).2.2.1.2.1,
        ((h c).1 (0 : Fin 2)).trans ((dats m ρ 0 c).arrAt_in (0 : Fin 2) rfl _),
        ((h c).1 (1 : Fin 2)).trans ((dats m ρ 0 c).arrAt_in (1 : Fin 2) rfl _), (h c).2.2.1.2.2⟩,
      sem_eq_zero hs fun c => (h c).2.2.2⟩)

end Cert.Gather
-- ==== Proof.Frames.lean ====
/-
# The frames of the three programs

The kernel's run, read at floats as bit patterns and at the extended reals, and the reference's.
-/
module

public import proofs.«01_k».proof.Defs
public import proofs.«01_k».proof.Proof.Same
public import proofs.«01_k».proof.Proof.Launch
public import proofs.«01_k».proof.Proof.Gen.ReferenceIdeal.Run
public import Idealize.ShloMosaic.Lib.Quiescent

@[expose] public section

noncomputable section

namespace Cert.Gather

open Idealize.ShloMosaic Idealize.SL.Sem

/-- At the extended reals the kernel ends with its arguments as they were and every counter at zero. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩) (run_main (F := Ideal) m ρ)

/-- At floats as bit patterns too: it is the same program, and the run holds over any floats. -/
theorem frame_kernel : Cert.quiescent_Kernel := by
  intro m ρ _
  rw [defs_same, main_same]
  exact (θ_run Cert.KernelIdeal.defs _ _).mono
    (fun _ h => ⟨fun c => ⟨(h.1 c).1, (h.1 c).2.1, (h.1 c).2.2.1, (h.1 c).2.2.2.1⟩, h.2⟩) (run_main (F := Bits) m ρ)

/-- The reference is a list of host operations and declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Gather

end
-- ==== Proof.Silu.lean ====
/-
# One entry of the scaled product, through the gate

Over the extended reals an entry of the kernel's result is `y · (1 / d)` and an entry of the reference's is `y / d`,
with `y` the scaled sum of products and `d = 1 + exp (−clip y)`. The divisor is at least one, so the two agree. Both
are written here as `gated` of the sum and the scale.
-/
module

public import proofs.«01_k».proof.Proof.Gen.KernelIdeal.Skeleton
public import proofs.«01_k».proof.Proof.Gen.ReferenceIdeal
public import Idealize.ShloMosaic.Lib.Pointwise
public import Idealize.ShloMosaic.Lib.IdealHost

@[expose] public section

noncomputable section

namespace Cert.Gather

open Idealize.ShloMosaic

/-! ## The scalar mathematics -/

/-- The argument of the exponential's sign change: `y` held between −60 and 60. -/
def clip (y : EReal) : EReal := min (Ideal.ofBits .f32 0x42700000#32) (max (Ideal.ofBits .f32 0xC2700000#32) y)

/-- `y / (1 + exp (−clip y))`. -/
def gated (y : EReal) : EReal := Ideal.div y (1 + Ideal.exp (-clip y))

/-- An exponential is not negative. -/
theorem exp_not_neg (x : EReal) : 0 ≤ Ideal.exp x := by
  induction x with
  | bot => exact le_refl _
  | top => exact le_top
  | coe r => exact EReal.coe_nonneg.mpr (Real.exp_pos r).le

/-- So one more than it is not zero. -/
theorem one_add_exp_ne_zero (x : EReal) : 1 + Ideal.exp x ≠ 0 := by
  intro h
  have h1 : (1 : EReal) ≤ 1 + Ideal.exp x := le_add_of_nonneg_right (exp_not_neg x)
  rw [h] at h1
  exact absurd h1 (by simp)

/-- The product with the reciprocal is the quotient. -/
theorem gated_of_mul (y : EReal) : y * Ideal.div 1 (1 + Ideal.exp (0 - clip y)) = gated y := by
  rw [zero_sub, Ideal.mul_one_div (one_add_exp_ne_zero _)]
  rfl

/-! ## The kernel's five blocks -/

section Kernel

open Cert.KernelIdeal Cert.KernelIdeal.Gen

variable (W : Vec Ideal S4096x512 .fp8e5m2) (j : Fin 512)

/-- The device's own rows: the block takes the two scales apart. -/
theorem pay5_entry (a b : Ideal .f32) (A : Vec Ideal S1024x4096 .fp8e5m2) (r : Fin 1024) :
    k0_pay5 a b A W (ix3 0 r j) = gated ((∑ k : Fin 4096, A (ix2 r k) * W (ix2 k j)) * (a * b)) := by
  rw [← gated_of_mul]
  pointwise [k0_pay5, k0_pay4, clip]

/-- The scale of the other four: the product of the two. -/
theorem pay4_eq (a b : Ideal .f32) : k0_pay4 a b = a * b := rfl

/-- The left neighbour's rows. -/
theorem pay6_entry (s : Ideal .f32) (A : Vec Ideal S1024x4096 .fp8e5m2) (r : Fin 1024) :
    k0_pay6 s A W (ix3 0 r j) = gated ((∑ k : Fin 4096, A (ix2 r k) * W (ix2 k j)) * s) := by
  rw [← gated_of_mul]
  pointwise [k0_pay6, clip]

/-- The right neighbour's rows. -/
theorem pay7_entry (s : Ideal .f32) (A : Vec Ideal S1024x4096 .fp8e5m2) (r : Fin 1024) :
    k0_pay7 s A W (ix3 0 r j) = gated ((∑ k : Fin 4096, A (ix2 r k) * W (ix2 k j)) * s) := by
  rw [← gated_of_mul]
  pointwise [k0_pay7, clip]

/-- The opposite device's upper rows. -/
theorem pay8_entry (s : Ideal .f32) (A : Vec Ideal S512x4096 .fp8e5m2) (r : Fin 512) :
    k0_pay8 s A W (ix3 0 r j) = gated ((∑ k : Fin 4096, A (ix2 r k) * W (ix2 k j)) * s) := by
  rw [← gated_of_mul]
  pointwise [k0_pay8, clip]

/-- The opposite device's lower rows. -/
theorem pay9_entry (s : Ideal .f32) (A : Vec Ideal S512x4096 .fp8e5m2) (r : Fin 512) :
    k0_pay9 s A W (ix3 0 r j) = gated ((∑ k : Fin 4096, A (ix2 r k) * W (ix2 k j)) * s) := by
  rw [← gated_of_mul]
  pointwise [k0_pay9, clip]

end Kernel

/-! ## The reference -/

section Reference

open Cert.ReferenceIdeal Cert.ReferenceIdeal.Gen

variable (x : FVec Ideal S4096x4096 .f32) (w : FVec Ideal S4096x2048 .f32) (a b : FVec Ideal S1 .f32)

/-- The whole scaled product. -/
def refY : FVec Ideal S4096x2048 .f32 :=
  mulf (Host.dotGeneral dot_S4096x4096_S4096x2048_S4096x2048_1_0_0_1_n_n none x w)
    (broadcastInDim S4096x2048 ![0, 1] bcast_S1x1_S4096x2048_0_1 (broadcastInDim S1x1 ![1] bcast_S1_S1x1_1 (mulf a b)))

/-- The whole result. -/
def refOut : FVec Ideal S4096x2048 .f32 :=
  Host.divf (refY x w a b)
    (addf (broadcastInDim S4096x2048 ![] bcast_S_S4096x2048 (constant S_ .f32 0x3F800000#32))
      (Host.exp (Host.negf (minimumf (broadcastInDim S4096x2048 ![] bcast_S_S4096x2048 (id (constant S_ .f32 0x42700000#32)))
        (maximumf (broadcastInDim S4096x2048 ![] bcast_S_S4096x2048 (id (constant S_ .f32 0xC2700000#32))) (refY x w a b))))))

/-- An entry of the whole result. -/
theorem refOut_entry (r : Fin 4096) (j : Fin 2048) :
    refOut x w a b (ix2 r j) = gated ((∑ k : Fin 4096, x (ix2 r k) * w (ix2 k j)) * (a (ix1 0) * b (ix1 0))) := by
  pointwise [refOut, refY, gated, clip, id_eq]

end Reference

end Cert.Gather

end
-- ==== Proof.Value.lean ====
/-
# The value of the result

Row `R` of the whole result lies, on device `c`, in the block of the device that holds row `R` of `x`: its own, its left
neighbour's, its right neighbour's, or the opposite device's, whose rows came in two halves. In each of them the entry is
the gated product of row `R` of `x` with a column of the device's columns of `w`; column `j` of device `c` is column
`512 c + j` of the whole.
-/
module

public import proofs.«01_k».proof.Proof.Silu
public import proofs.«01_k».proof.Proof.Frames

@[expose] public section

noncomputable section

namespace Cert.Gather

open Cert.KernelIdeal Cert.KernelIdeal.Gen
open Idealize.ShloMosaic
open Idealize.ShloMosaic.TcCoe
open Idealize.SL.Sem

variable (m : (ℓ : Loc nD τ sig) → Buf (Elt Ideal) ℓ)
variable (X : FVec Ideal ⟨2, ![4096, 4096]⟩ .f32) (W : FVec Ideal ⟨2, ![4096, 2048]⟩ .f32) (a b : FVec Ideal S1 .f32)

/-- The four devices hold their parts of the whole arguments. -/
structure Holds : Prop where
  x : ∀ c : Dev nD, xC m c = Layout.block ⟨2, ![1024, 4096]⟩ ⟨2, ![4096, 4096]⟩ 0 4 c X
  w : ∀ c : Dev nD, wC m c = Layout.block ⟨2, ![4096, 512]⟩ ⟨2, ![4096, 2048]⟩ 1 4 c W
  a : ∀ c : Dev nD, saC m c = a
  b : ∀ c : Dev nD, sbC m c = b

/-- The index of a block's row and column is the library's. -/
theorem ix3_eq (n k r : ℕ) (hr : r < n) (j : Fin k) : Cert.Gather.ix3 n k r hr j = Idealize.ShloMosaic.ix3 0 ⟨r, hr⟩ j := by
  funext d
  match d with
  | ⟨0, _⟩ => rfl
  | ⟨1, _⟩ => rfl
  | ⟨2, _⟩ => rfl

variable {m X W a b}

/-- Row `r` of device `d` is row `1024 d + r` of the whole; the change of format is nothing here. -/
theorem row_of (h : Holds m X W a b) (d : Dev nD) (r : Fin 1024) (k : Fin 4096) (R : Fin 4096) (hR : R.val = d.val * 1024 + r.val) :
    xqC m d (ix2 r k) = X (ix2 R k) := by
  show xC m d (ix2 r k) = _
  rw [h.x d, Layout.block_apply]
  refine congrArg X (funext fun e => Fin.ext ?_)
  match e with
  | ⟨0, _⟩ => exact hR.symm
  | ⟨1, _⟩ => rfl

/-- Column `j` of device `c` is column `512 c + j` of the whole. -/
theorem col_of (h : Holds m X W a b) (c : Dev nD) (k : Fin 4096) (j : Fin 512) (J : Fin 2048) (hJ : J.val = c.val * 512 + j.val) :
    wqC m c (ix2 k j) = W (ix2 k J) := by
  show wC m c (ix2 k j) = _
  rw [h.w c, Layout.block_apply]
  refine congrArg W (funext fun e => Fin.ext ?_)
  match e with
  | ⟨0, _⟩ => rfl
  | ⟨1, _⟩ => exact hJ.symm

/-- The first half's row `r` is the block's row `r`. -/
theorem topOf_row (v : Vec Ideal S1024x4096 .fp8e5m2) (r : Fin 512) (k : Fin 4096) :
    topOf v (ix2 r k) = v (ix2 ⟨r.val, by omega⟩ k) := by
  refine congrArg v (funext fun e => Fin.ext ?_)
  match e with
  | ⟨0, _⟩ => exact (by omega : 0 + 1 * r.val = r.val)
  | ⟨1, _⟩ => exact (by omega : 0 + 1 * k.val = k.val)

/-- The second half's row `r` is the block's row `512 + r`. -/
theorem botOf_row (v : Vec Ideal S1024x4096 .fp8e5m2) (r : Fin 512) (k : Fin 4096) :
    botOf v (ix2 r k) = v (ix2 ⟨512 + r.val, by omega⟩ k) := by
  refine congrArg v (funext fun e => Fin.ext ?_)
  match e with
  | ⟨0, _⟩ => exact (by omega : 512 + 1 * r.val = 512 + r.val)
  | ⟨1, _⟩ => exact (by omega : 0 + 1 * k.val = k.val)

/-- The scale of every device is the reference's. -/
theorem scale_of (h : Holds m X W a b) (c : Dev nD) : sa m c * sb m c = a (ix1 0) * b (ix1 0) := by
  have ea : sa m c = a (ix1 0) := (congrFun (h.a c) i0).trans (congrArg a (idx1 _).symm)
  have eb : sb m c = b (ix1 0) := (congrFun (h.b c) i0).trans (congrArg b (idx1 _).symm)
  rw [ea, eb]

/-- A gated product of row `R` and of column `J` is the reference's entry there. -/
theorem entry_of (h : Holds m X W a b) (c : Dev nD) (A : Fin 4096 → EReal) (j : Fin 512) (R : Fin 4096) (J : Fin 2048)
    (hA : ∀ k, A k = X (ix2 R k)) (hJ : J.val = c.val * 512 + j.val) :
    gated ((∑ k : Fin 4096, A k * wqC m c (ix2 k j)) * (sa m c * sb m c)) = refOut X W a b (ix2 R J) := by
  rw [refOut_entry, scale_of h c]
  refine congrArg (fun y => gated (y * _)) (Finset.sum_congr rfl fun k _ => ?_)
  rw [hA k, col_of h c k j J hJ]

/-! ## The five blocks at a row and a column -/

section Blocks

variable (h : Holds m X W a b) (c : Dev nD) (r : ℕ) (j : Fin 512) (R : Fin 4096) (J : Fin 2048) (hJ : J.val = c.val * 512 + j.val)
include h hJ

/-- Its own rows. -/
theorem p0_entry (hr : r < 1024) (hR : R.val = c.val * 1024 + r) :
    p0 m c (Cert.Gather.ix3 1024 512 r hr j) = refOut X W a b (ix2 R J) := by
  rw [ix3_eq, p0, pay5_entry]
  exact entry_of h c _ _ R J (fun k => row_of h c _ k R hR) hJ

/-- The left neighbour's rows. -/
theorem p1_entry (hr : r < 1024) (hR : R.val = (prv c).val * 1024 + r) :
    p1 m c (Cert.Gather.ix3 1024 512 r hr j) = refOut X W a b (ix2 R J) := by
  rw [ix3_eq, p1, pay6_entry, pay4_eq]
  exact entry_of h c _ _ R J (fun k => row_of h (prv c) _ k R hR) hJ

/-- The right neighbour's rows. -/
theorem p2_entry (hr : r < 1024) (hR : R.val = (nxt c).val * 1024 + r) :
    p2 m c (Cert.Gather.ix3 1024 512 r hr j) = refOut X W a b (ix2 R J) := by
  rw [ix3_eq, p2, pay7_entry, pay4_eq]
  exact entry_of h c _ _ R J (fun k => row_of h (nxt c) _ k R hR) hJ

/-- The opposite device's upper half. -/
theorem p3_entry (hr : r < 512) (hR : R.val = (opp c).val * 1024 + r) :
    p3 m c (Cert.Gather.ix3 512 512 r hr j) = refOut X W a b (ix2 R J) := by
  rw [ix3_eq, p3, pay8_entry, pay4_eq]
  exact entry_of h c _ _ R J (fun k => (topOf_row _ _ k).trans (row_of h (opp c) _ k R hR)) hJ

/-- The opposite device's lower half. -/
theorem p4_entry (hr : r < 512) (hR : R.val = (opp c).val * 1024 + (512 + r)) :
    p4 m c (Cert.Gather.ix3 512 512 r hr j) = refOut X W a b (ix2 R J) := by
  rw [ix3_eq, p4, pay9_entry, pay4_eq]
  exact entry_of h c _ _ R J (fun k => (botOf_row _ _ k).trans (row_of h (opp c) _ k R hR)) hJ

end Blocks

/-- Device `c`'s result at a row and a column. -/
theorem outC_entry (h : Holds m X W a b) (c : Dev nD) (i : S4096x512.Idx) (R : Fin 4096) (J : Fin 2048)
    (hR : R.val = (i 0).val) (hJ : J.val = c.val * 512 + (i 1).val) :
    outC m c i = refOut X W a b (ix2 R J) := by
  have hi : (i 0).val < 4096 := (i 0).isLt
  have hc := dev_cover c ((i 0).val / 1024) (by omega)
  unfold outC
  split_ifs with h0 h1 h2 h3
  · exact p0_entry h c _ (i 1) R J hJ _ (by omega)
  · exact p1_entry h c _ (i 1) R J hJ _ (by omega)
  · exact p2_entry h c _ (i 1) R J hJ _ (by omega)
  · exact p3_entry h c _ (i 1) R J hJ _ (by omega)
  · exact p4_entry h c _ (i 1) R J hJ _ (by omega)

/-- Device `c`'s result is its block of columns of the reference's. -/
theorem outC_block (h : Holds m X W a b) (c : Dev nD) :
    outC m c = Layout.block ⟨2, ![4096, 512]⟩ ⟨2, ![4096, 2048]⟩ 1 4 c (refOut X W a b) := by
  funext i
  rw [Layout.block_apply]
  have hj : c.val * 512 + (i 1).val < 2048 := by
    have h1 : (i 1).val < 512 := (i 1).isLt
    have h2 : c.val < 4 := c.isLt
    omega
  rw [outC_entry h c i (i 0) ⟨c.val * 512 + (i 1).val, hj⟩ rfl rfl]
  refine congrArg _ (funext fun e => Fin.ext ?_)
  match e with
  | ⟨0, _⟩ => rfl
  | ⟨1, _⟩ => rfl

/-! ## The claim -/

/-- The kernel's result on device `c` is block `c` of the reference's. -/
theorem value : Cert.algebraic_KernelIdeal_ReferenceIdeal := by
  intro m ρ m' ρ' _ hargs
  let X := m' (((0 : Dev Cert.ReferenceIdeal.nD).tc : Thread Cert.ReferenceIdeal.nD Cert.ReferenceIdeal.τ).loc Cert.ReferenceIdeal.main_arg0)
  let W := m' (((0 : Dev Cert.ReferenceIdeal.nD).tc : Thread Cert.ReferenceIdeal.nD Cert.ReferenceIdeal.τ).loc Cert.ReferenceIdeal.main_arg1)
  let a := m' (((0 : Dev Cert.ReferenceIdeal.nD).tc : Thread Cert.ReferenceIdeal.nD Cert.ReferenceIdeal.τ).loc Cert.ReferenceIdeal.main_arg2)
  let b := m' (((0 : Dev Cert.ReferenceIdeal.nD).tc : Thread Cert.ReferenceIdeal.nD Cert.ReferenceIdeal.τ).loc Cert.ReferenceIdeal.main_arg3)
  have h : Holds m X W a b :=
    ⟨fun c => (hargs c).1, fun c => (hargs c).2.1, fun c => (hargs c).2.2.1, fun c => (hargs c).2.2.2⟩
  refine ⟨refOut X W a b, ?_, ?_⟩
  · exact (θ_run Cert.KernelIdeal.defs _ _).mono
      (fun _ hr c => ⟨(hr.1 c).2.2.2.2.trans (outC_block h c), (hr.1 c).1, (hr.1 c).2.1, (hr.1 c).2.2.1, (hr.1 c).2.2.2.1⟩)
      (run_main (F := Ideal) m ρ)
  · exact (θ_run Cert.ReferenceIdeal.defs _ _).mono (fun _ hr => hr 0) (Cert.ReferenceIdeal.Value.run (F := Ideal) m' ρ')

end Cert.Gather

end
-- ==== Proof.lean ====
/-
# The claim

Three frames, the preservation that is nothing to show (no operation was rewritten), and the value.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

/-- Every claim of the certificate. -/
theorem claim : Cert.Claim := ⟨Cert.Kernel.Gen.facts, Cert.KernelIdeal.Gen.facts, Cert.ReferenceIdeal.Gen.facts,
  Cert.Gather.frame_kernel, Cert.Gather.frame_ideal, Cert.Gather.frame_reference, trivial, Cert.Gather.value⟩

end Cert.Proof

end
